-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S100000x128 .f32) (main_arg4 : FVec F S256x128 .f32) (main_arg5 : FVec F S128 .f32) (main_arg6 : FVec F S128x128 .f32) (main_arg7 : FVec F S128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S1x128 : Shape := ⟨2, ![1, 128]⟩
abbrev S2048x128 : Shape := ⟨2, ![2048, 128]⟩

abbrev nBuf : Table → Nat
  | .hbm => 15
  | .local .tc .vmem => 11
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16384x128, .f32⟩
  | .hbm, ⟨9, _⟩ => ⟨S16384x128, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S1x128, .f32⟩
  | .hbm, ⟨14, _⟩ => ⟨S16384x128, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S128x128, .f32⟩
  | .local .tc .vmem, ⟨5, _⟩ => ⟨S128x128, .f32⟩
  | .local .tc .vmem, ⟨6, _⟩ => ⟨S1x128, .f32⟩
  | .local .tc .vmem, ⟨7, _⟩ => ⟨S128x128, .f32⟩
  | .local .tc .vmem, ⟨8, _⟩ => ⟨S1x128, .f32⟩
  | .local .tc .vmem, ⟨9, _⟩ => ⟨S2048x128, .f32⟩
  | .local .tc .vmem, ⟨10, _⟩ => ⟨S2048x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_arg2_scv : Ref sig .scVector := ⟨.hbm, 2, rfl⟩
abbrev main_arg3_scv : Ref sig .scVector := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 8, rfl⟩
abbrev main_v0_1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x256 : Shape := ⟨2, ![16384, 256]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x128, .f32⟩
  | .hbm, ⟨27, _⟩ => ⟨S16384x128, .i1⟩
  | .hbm, ⟨28, _⟩ => ⟨S_, .f32⟩
  | .hbm, ⟨29, _⟩ => ⟨S16384x128, .f32⟩
  | .hbm, ⟨30, _⟩ => ⟨S16384x128, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x128, .f32⟩
  | .hbm, ⟨50, _⟩ => ⟨S16384x128, .i1⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S16384x256, .f32⟩
  | .hbm, ⟨55, _⟩ => ⟨S16384x128, .f32⟩
  | .hbm, ⟨56, _⟩ => ⟨S1x128, .f32⟩
  | .hbm, ⟨57, _⟩ => ⟨S16384x128, .f32⟩
  | .hbm, ⟨58, _⟩ => ⟨S16384x128, .f32⟩
  | .hbm, ⟨59, _⟩ => ⟨S_, .f32⟩
  | .hbm, ⟨60, _⟩ => ⟨S16384x128, .f32⟩
  | .hbm, ⟨61, _⟩ => ⟨S16384x128, .f32⟩
  | .hbm, ⟨62, _⟩ => ⟨S16384x128, .f32⟩
  | .hbm, ⟨63, _⟩ => ⟨S1x128, .f32⟩
  | .hbm, ⟨64, _⟩ => ⟨S16384x128, .f32⟩
  | .hbm, ⟨65, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩

abbrev nD : Nat := 1
abbrev τ : Topo := Topo.v7x

variable {F : FTy → Type} [FloatOps F]
-- ==== Proof.Setup.lean ====
/-
  The two embedding lookups and the perceptron: what every later module shares. The program as the launch theorem sees
  it, the resource algebra, the buffers of @main under short names, the cut of the two index vectors and of the two
  looked-up arrays into 32 blocks of 512 rows (one per vector subcore), the read shares of the two tables, and the
  lookup as a function of an index vector and a table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Lookup

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels below the SparseCore launch: the pipeline of the perceptron over the printed bodies. -/
abbrev ΛP : Labels := Pipeline.Sig Λ₀ (Fin 1) fun p => (pcfgs (F := F) p).Adm
/-- The SparseCore launch. -/
abbrev K : SparseCore.Cfg τ sig (ΛP (F := F)) 1 := sc (F := F)
/-- The definitions below it. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' component. -/
abbrev UH : Type := URounds (GSem nD τ sig) ℕ
/-- The handshakes, the pipeline's staging cells, the transfers' counters. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- The pipeline's component: the left of the right half. -/
abbrev EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ (MT nD τ sig (HIx 1) (Elt F) ℕ UU ℕ)) := by
  unfold EP; infer_instance

/-! ## The buffers -/

/-- The index vector of the users and of the items, -/
abbrev uix (d : Dev nD) : Loc nD τ sig := (SparseCore.T d).loc main_arg0
abbrev iix (d : Dev nD) : Loc nD τ sig := (SparseCore.T d).loc main_arg1
/-- their tables, -/
abbrev utab (d : Dev nD) : Loc nD τ sig := (SparseCore.T d).loc main_arg2
abbrev itab (d : Dev nD) : Loc nD τ sig := (SparseCore.T d).loc main_arg3
/-- and the looked-up rows. -/
abbrev uout (d : Dev nD) : Loc nD τ sig := (SparseCore.T d).loc main_v0_0
abbrev iout (d : Dev nD) : Loc nD τ sig := (SparseCore.T d).loc main_v0_1

/-! ## The 32 blocks -/

theorem dvd_ix : 32 ∣ S16384.size 0 := ⟨512, rfl⟩
theorem dvd_out : 32 ∣ S16384x128.size 0 := ⟨512, rfl⟩
/-- Block `b` of an index vector: its words `512 b` to `512 b + 511`. -/
abbrev ixBlk (b : Fin 32) : Rect S16384 := Rect.part (s := S16384) (a₀ := 0) dvd_ix b
/-- Block `b` of a looked-up array: its rows `512 b` to `512 b + 511`. -/
abbrev outBlk (b : Fin 32) : Rect S16384x128 := Rect.part (s := S16384x128) (a₀ := 0) dvd_out b
/-- The share of a table that block `b`'s subcore reads through. -/
abbrev tok (b : Fin 32) : PosShare TreeShare := Transfers.shareTok fullShare 32 b
/-- What stays behind once the 32 shares are dealt. -/
abbrev kept : PosShare TreeShare := Transfers.shareDrop fullShare 32

/-! ## The lookup as a function -/

/-- The position `k` of an index vector. -/
def at1 (k : Fin 16384) : S16384.Idx := fun a => match a with | ⟨0, _⟩ => k
/-- The position `(r, c)` of a table, -/
def at2 (r : Fin 100000) (c : Fin 128) : S100000x128.Idx := fun a => match a with | ⟨0, _⟩ => r | ⟨1, _⟩ => c
/-- and the row a word names, in a table of 100000 rows. -/
def rowOf (w : BitVec 32) : Fin 100000 := ⟨w.toNat % 100000, Nat.mod_lt _ (by decide)⟩
/-- The rows of `tab` that `ix` names, one under another. -/
def picked (ix : S16384.Idx → Elt F .i32) (tab : S100000x128.Idx → Elt F .f32) : S16384x128.Idx → Elt F .f32 :=
  fun x => tab (at2 (rowOf (ix (at1 (x 0)))) (x 1))

variable (m : (ℓ : Loc nD τ sig) → Buf (Elt F) ℓ)

/-- The users' rows and the items' rows, of the launch memory. -/
def uPicked (d : Dev nD) : Buf (Elt F) (uout d) := picked (m (uix d)) (m (utab d))
def iPicked (d : Dev nD) : Buf (Elt F) (iout d) := picked (m (iix d)) (m (itab d))

/-- Every index names a row of its table. -/
def InRange : Prop := ∀ (d : Dev nD) (j : S16384.Idx), (m (uix d) j).toNat < 100000 ∧ (m (iix d) j).toNat < 100000

/-- What block `b`'s subcore works on: its block of both index vectors, a share of both tables, its block of both
    results, those at contents `fu` and `fi`. -/
def task (d : Dev nD) (b : Fin 32) (fu : Buf (Elt F) (uout d)) (fi : Buf (Elt F) (iout d)) : sProp 𝕄 :=
  iprop((uix d ↦[(ixBlk b).set]{fullShare} m (uix d)) ∗ (iix d ↦[(ixBlk b).set]{fullShare} m (iix d))
    ∗ (utab d ↦{tok b} m (utab d)) ∗ (itab d ↦{tok b} m (itab d))
    ∗ (uout d ↦[(outBlk b).set]{fullShare} fu) ∗ iout d ↦[(outBlk b).set]{fullShare} fi)

end Cert.Proof.Lookup

end
-- ==== Proof.Tile.lean ====
/-
  One vector subcore's run: the index block fetched, the rows it names streamed out of the user table, written to the
  subcore's block of the looked-up array; the same for the items.
-/
module

public import proofs.«01_k».proof.Proof.Setup

@[expose] public section

noncomputable section

namespace Cert.Proof.Lookup

open Cert.KernelIdeal Cert.KernelIdeal.Gen

open Idealize.ShloMosaic
open Idealize.ShloMosaic.SparseCore (V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

/-- The block that the subcore at coordinates `L` works on. -/
def wid (L : grid0.Coords) : Fin 32 :=
  ⟨2 * (L 1).val + (L 0).val, by
    have h0 : (L 0).val < 2 := (L 0).isLt
    have h1 : (L 1).val < 16 := (L 1).isLt
    omega⟩

/-- The subcore at coordinates `L`. -/
abbrev me (d : Dev nD) (L : grid0.Coords) : Thread nD τ := V d ((L 0).castLE hcore0) ((L 1).castLE hsub0)

abbrev uixV : Memref sig .scVector .hbm S16384 .i32 := Memref.whole main_arg0_scv
abbrev iixV : Memref sig .scVector .hbm S16384 .i32 := Memref.whole main_arg1_scv
abbrev utabV : Memref sig .scVector .hbm S100000x128 .f32 := Memref.whole main_arg2_scv
abbrev itabV : Memref sig .scVector .hbm S100000x128 .f32 := Memref.whole main_arg3_scv
abbrev uoutV : Memref sig .scVector .hbm S16384x128 .f32 := Memref.whole main_v0_0_scv
abbrev ioutV : Memref sig .scVector .hbm S16384x128 .f32 := Memref.whole main_v0_1_scv
/-- The index scratch and the row scratch. -/
abbrev listV : Memref sig .scVector .vmem S512 .i32 := Memref.whole cc0_scratch0
abbrev rowsV : Memref sig .scVector .vmem S512x128 .f32 := Memref.whole cc0_scratch1

/-- The blocks as the subcore addresses them. -/
abbrev ixAt (L : grid0.Coords) : Rect S16384 := Rect.unit (s := S16384) (k0_off1 L) S512.size (k0_off1_inb L)
abbrev outAt (L : grid0.Coords) : Rect S16384x128 := Rect.unit (s := S16384x128) (k0_off2 L) S512x128.size (k0_off2_inb L)

theorem ixAt_eq : ixAt L = ixBlk (wid L) := by
  unfold ixAt ixBlk Rect.part Rect.block
  congr 1 <;> funext a <;> match a with
  | 0 => first
    | (rw [k0_off1_eq]; simp [Shape.partIx, Shape.partSize, wid]; omega)
    | simp [Shape.partSize]

theorem outAt_eq : outAt L = outBlk (wid L) := by
  unfold outAt outBlk Rect.part Rect.block
  congr 1 <;> funext a <;> match a with
  | 0 => first
    | (rw [k0_off2_eq]; simp [Shape.partIx, Shape.partSize, wid]; omega)
    | simp [Shape.partSize]
  | 1 => first
    | (rw [k0_off2_eq]; simp [Shape.partIx, Shape.partSize])
    | simp [Shape.partSize]

/-- The word of an index block at `y` sits in the vector at the block's offset plus `y`, -/
theorem ixAt_emb (y : S512.Idx) : ((ixAt L).emb y 0).val = 512 * (wid L).val + (y 0).val := by
  rw [Rect.emb_apply]; simp only [Rect.off_unit, Rect.stride_unit, Nat.one_mul, k0_off1_eq, wid]; simp; omega

/-- and the row of a block of results likewise, its column kept. -/
theorem outAt_emb_row (x : S512x128.Idx) : ((outAt L).emb x 0).val = 512 * (wid L).val + (x 0).val := by
  rw [Rect.emb_apply]; simp only [Rect.off_unit, Rect.stride_unit, Nat.one_mul, k0_off2_eq, wid]; simp; omega
theorem outAt_emb_col (x : S512x128.Idx) : ((outAt L).emb x 1).val = (x 1).val := by
  rw [Rect.emb_apply]; simp only [Rect.off_unit, Rect.stride_unit, Nat.one_mul, k0_off2_eq]; simp

/-- The rows streamed over a list that is block `wid L` of the index vector `ix` are block `wid L` of the lookup. -/
theorem streamed (ix : S16384.Idx → Elt F .i32) (tab : S100000x128.Idx → Elt F .f32) (lst : S512.Idx → Elt F .i32)
    (hl : ∀ y, lst y = ix ((ixAt L).emb y)) (hn : S512.numel = S512x128.size gathers_S100000x128_S512x128.axis')
    (hin : ∀ y, (lst y).toNat < S100000x128.size gathers_S100000x128_S512x128.axis) (g : S100000x128.Idx → Elt F .f32) (hg : g = tab)
    (x : S512x128.Idx) :
    SparseCore.gatherPayload gathers_S100000x128_S512x128 g (SparseCore.rows lst hn hin) x = picked ix tab ((outAt L).emb x) := by
  subst hg
  unfold SparseCore.gatherPayload picked
  congr 1
  have row : ∀ k : Fin (S512x128.size gathers_S100000x128_S512x128.axis'), k.val = (x 0).val →
      lst (S512.rowMajor.symm (k.cast hn.symm)) = ix (at1 ((outAt L).emb x 0)) := by
    intro k hk
    rw [hl]; congr 1; funext a
    match a with
    | ⟨0, _⟩ =>
      apply Fin.ext
      have e : ((S512.rowMajor.symm (k.cast hn.symm)) 0).val = k.val := by
        rw [← Shape.rowMajor_val_one, Equiv.apply_symm_apply]; rfl
      refine (ixAt_emb L _).trans ?_
      rw [e, hk]; exact (outAt_emb_row L x).symm
  funext b
  match b with
  | ⟨0, _⟩ =>
    refine (Shape.Gathers.idx_axis _ _ x).trans (Fin.ext ?_)
    have e := row (x gathers_S100000x128_S512x128.axis') rfl
    have lt := hin (S512.rowMajor.symm ((x gathers_S100000x128_S512x128.axis').cast hn.symm))
    rw [e] at lt
    show (lst _).toNat = (ix _).toNat % 100000
    rw [e]; exact (Nat.mod_eq_of_lt lt).symm
  | ⟨1, _⟩ =>
    refine Fin.ext ((Shape.Gathers.idx_of_ne _ _ x _ (show (1 : ℕ) ≠ 0 by decide)).trans ?_)
    exact (outAt_emb_col L x).symm

/-- A table sliced whole is the table. -/
theorem table_emb (x : S100000x128.Idx) :
    (Rect.unit (s := S100000x128) ![0, 0] S100000x128.size inb_S100000x128_S100000x128_0_0).emb x = x := by
  funext a; apply Fin.ext
  match a with
  | ⟨0, _⟩ => rw [Rect.emb_apply]; simp
  | ⟨1, _⟩ => rw [Rect.emb_apply]; simp

/-- A block of a buffer written with what `g` holds there holds `g` there. -/
theorem landed (b : Ref sig .scVector) (r r' : Rect b.ty.shape) (e : r = r') (f g : b.ty.Contents (Elt F)) (pay : r.shape.Idx → Elt F b.ty.elt)
    (h : ∀ x, pay x = g (r.emb x)) :
    ((me d L).loc b ↦[((View.whole b).slice r).set]{fullShare} ((View.whole b).slice r).writes (Elt F) f [⟨Rect.whole r.shape, pay⟩] : sProp 𝕄)
      = (me d L).loc b ↦[r'.set]{fullShare} g := by
  subst e
  rw [← View.set_slice_whole b r]
  refine pointsTo_congr fun i hi => ?_
  obtain ⟨x, -, rfl⟩ := Finset.mem_map.mp hi
  have hw := View.read_writes_cons_emb ((View.whole b).slice r) f (Rect.whole r.shape) pay [] x
  rw [Rect.emb_whole_apply] at hw
  exact hw.trans (h x)

/-- A block of a buffer of the launch, as the subcore addresses it, is the block of the cut. -/
theorem lent_ix (b : Ref sig .scVector) (r r' : Rect b.ty.shape) (h : r = r') (f : Buf (Elt F) ((me d L).loc b)) :
    ((me d L).loc b ↦[r'.set]{fullShare} f : sProp 𝕄) = (me d L).loc b ↦[((View.whole b).slice r).set]{fullShare} f := by
  rw [View.set_slice_whole, h]

/-- Whatever the index scratch held, once a list is fetched into it, it is the list. -/
theorem list_read (f : Buf (Elt F) (listV.view.loc (me d L))) (w : S512.Idx → Elt F .i32) (x : S512.Idx) :
    listV.view.read (Elt F) (View.write (Elt F) listV.view f w Finset.univ) x = w x :=
  congrFun (View.read_write_univ (v := listV.view) f w) x

theorem own_sems :
    (ownSems0 (me d L) : sProp 𝕄)
      = iprop(semVal (me d L, .dma cc0_scoped0.sem) 0 ∗ semVal (me d L, .dma cc0_scoped1.sem) 0 ∗ semVal (me d L, .dma cc0_scoped2.sem) 0
          ∗ semVal (me d L, .dma cc0_scoped3.sem) 0 ∗ semVal (me d L, .dma cc0_scratch2.sem) 0
          ∗ bigSep ((((((ownCells (me d L)).erase (me d L, .dma cc0_scoped0.sem)).erase (me d L, .dma cc0_scoped1.sem)).erase
              (me d L, .dma cc0_scoped2.sem)).erase (me d L, .dma cc0_scoped3.sem)).erase (me d L, .dma cc0_scratch2.sem)) fun g => semVal g 0) := by
  have own : ∀ s : SemLoc sig, s.isScoped .scVector = true → (me d L, s) ∈ ownCells (me d L) := fun s h => mem_ownCells.mpr ⟨rfl, h⟩
  have ne : ∀ {s t : SemLoc sig}, s ≠ t → ((me d L, s) : GSem nD τ sig) ≠ (me d L, t) := fun h e => h (congrArg Prod.snd e)
  unfold SparseCore.Cfg.ownSems0
  rw [SparseCore.bigSep_erase' (own (.dma cc0_scoped0.sem) (by decide)),
    SparseCore.bigSep_erase' (Finset.mem_erase.mpr ⟨ne (by decide), own (.dma cc0_scoped1.sem) (by decide)⟩),
    SparseCore.bigSep_erase' (Finset.mem_erase.mpr ⟨ne (by decide), Finset.mem_erase.mpr ⟨ne (by decide), own (.dma cc0_scoped2.sem) (by decide)⟩⟩),
    SparseCore.bigSep_erase' (Finset.mem_erase.mpr ⟨ne (by decide), Finset.mem_erase.mpr ⟨ne (by decide), Finset.mem_erase.mpr ⟨ne (by decide),
      own (.dma cc0_scoped3.sem) (by decide)⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), own (.dma cc0_scratch2.sem) (by decide)⟩⟩⟩⟩)]

/-- What is left of the subcore's own buffers beside its two scratch buffers. -/
abbrev otherBufs (d : Dev nD) (L : grid0.Coords) : sProp 𝕄 :=
  bigSep (((ownRefs (τ := τ) (me d L).2).erase ((me d L).2.devRef cc0_scratch0)).erase ((me d L).2.devRef cc0_scratch1))
    fun b => iprop(∃ f, ((d, b) : Loc nD τ sig) ↦{fullShare} f)

theorem own_bufs :
    (ownBufs (me d L) : sProp 𝕄)
      = iprop((∃ f, (me d L).loc cc0_scratch0 ↦{fullShare} f) ∗ (∃ f, (me d L).loc cc0_scratch1 ↦{fullShare} f) ∗ otherBufs d L) := by
  unfold SparseCore.Cfg.ownBufs otherBufs
  refine (SparseCore.bigSep_erase' (SparseCore.Cfg.mem_ownRefs_of_owner (p := (me d L).2) (b := (me d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (me d L).2) (b := (me d L).2.devRef cc0_scratch1) rfl⟩)]

variable [FloatOps F]

set_option maxHeartbeats 4000000 in
theorem tile_run (hF : (K (F := F)).Facts) (hr : InRange m) (O : CellTallies nD τ sig (HIx 1)) (W : Waits sig (HIx 1)) (hO : ∀ g, O g none = 0) :
    iprop(levAts (K (F := F)).L (K (F := F)).lev ∗ task m d (wid L) (m (uout d)) (m (iout d))
        ∗ scopedBufs (me d L) ∗ scopedSems0 (me d L) ∗ owes (me d L) O W)
      ⊢ wp frame (wpE (defs₀ (F := F)) 𝒱₀ (me d L) none) Set.univ
          (cc0_gather_k L utabV (Memref.isWhole_whole _) itabV (Memref.isWhole_whole _) uixV (Memref.isWhole_whole _) iixV (Memref.isWhole_whole _)
            uoutV (Memref.isWhole_whole _) ioutV (Memref.isWhole_whole _) listV (Memref.isWhole_whole _) rowsV (Memref.isWhole_whole _)
            cc0_scratch2 cc0_scoped0 cc0_scoped1 cc0_scoped2 cc0_scoped3)
          fun _ => iprop(task m d (wid L) (uPicked m d) (iPicked m d)
            ∗ scopedBufs (me d L) ∗ scopedSems0 (me d L)
            ∗ ∃ W', ⌜∀ p ∈ W', p ∈ W ∨ p.2 = none⌝ ∗ owes (me d L) O W') := by
  simp only [cc0_gather_k_eq_skeleton]; unfold cc0_gather_k_skel
  rw [(K (F := F)).scopedBufs_V hF d _ _, SparseCore.Cfg.scopedSems0_V (Val := Elt F) d _ _, own_sems, own_bufs]
  unfold task
  iintro ⟨#Hlv, ⟨Hui, Hii, Hut, Hit, Huo, Hio⟩, ⟨⟨%fs, Hs⟩, ⟨%fr, Hr⟩, Hbufs⟩, ⟨HsA, HsB, HsC, HsD, HsG, Hsems⟩, HO⟩
  ihave Hmw := (show levAts (K (F := F)).L (K (F := F)).lev ⊢ Transfers.MayWaits (me d L) (default : HIx 1) O from
    (K (F := F)).mayWaits_none (thr := me d L) hO) $$ Hlv
  ihave Hui := (Entails.of_eq (lent_ix (F := F) d L main_arg0_scv _ _ (ixAt_eq L) (m (uix d)))) $$ Hui
  ihave Hii := (Entails.of_eq (lent_ix (F := F) d L main_arg1_scv _ _ (ixAt_eq L) (m (iix d)))) $$ Hii
  ihave Huo := (Entails.of_eq (lent_ix (F := F) d L main_v0_0_scv _ _ (outAt_eq L) (m (uout d)))) $$ Huo
  ihave Hio := (Entails.of_eq (lent_ix (F := F) d L main_v0_1_scv _ _ (outAt_eq L) (m (iout d)))) $$ Hio
  ihave Hui := (show _ ⊢ (uixV.slice (ixAt L) (fun _ => rfl)).view.loc (me d L) ↦[(uixV.slice (ixAt L) (fun _ => rfl)).view.set]{fullShare} m (uix d) from .rfl) $$ Hui
  ihave Hii := (show _ ⊢ (iixV.slice (ixAt L) (fun _ => rfl)).view.loc (me d L) ↦[(iixV.slice (ixAt L) (fun _ => rfl)).view.set]{fullShare} m (iix d) from .rfl) $$ Hii
  ihave Huo := (show _ ⊢ (uoutV.slice (outAt L) (fun _ => rfl)).view.loc (me d L) ↦[(uoutV.slice (outAt L) (fun _ => rfl)).view.set]{fullShare} m (uout d) from .rfl) $$ Huo
  ihave Hio := (show _ ⊢ (ioutV.slice (outAt L) (fun _ => rfl)).view.loc (me d L) ↦[(ioutV.slice (outAt L) (fun _ => rfl)).view.set]{fullShare} m (iout d) from .rfl) $$ Hio
  ihave Hut := (show (utab d ↦{tok (wid L)} m (utab d) : sProp 𝕄) ⊢ utabV.view.loc (me d L) ↦{tok (wid L)} m (utab d) from .rfl) $$ Hut
  ihave Hit := (show (itab d ↦{tok (wid L)} m (itab d) : sProp 𝕄) ⊢ itabV.view.loc (me d L) ↦{tok (wid L)} m (itab d) from .rfl) $$ Hit
  ihave Hs := (show ((me d L).loc cc0_scratch0 ↦{fullShare} fs : sProp 𝕄) ⊢ listV.view.loc (me d L) ↦{fullShare} fs from .rfl) $$ Hs
  ihave Hr := (show ((me d L).loc cc0_scratch1 ↦{fullShare} fr : sProp 𝕄) ⊢ rowsV.view.loc (me d L) ↦{fullShare} fr from .rfl) $$ Hr
  sl_exec
  have lU : ∀ (g : Buf (Elt F) (listV.view.loc (me d L))) (x : S512.Idx),
      listV.view.read (Elt F) (View.write (Elt F) listV.view g (tile_run.sl.dma0 m d L) Finset.univ) x = m (uix d) ((ixAt L).emb x) :=
    fun g x => list_read d L g _ x
  have hinU : ∀ (g : Buf (Elt F) (listV.view.loc (me d L))) (x : S512.Idx),
      (listV.view.read (Elt F) (View.write (Elt F) listV.view g (tile_run.sl.dma0 m d L) Finset.univ) x).toNat
        < S100000x128.size gathers_S100000x128_S512x128.axis := fun g x => by rw [lU]; exact (hr d _).1
  sl_exec
  have lI : ∀ (g : Buf (Elt F) (listV.view.loc (me d L))) (x : S512.Idx),
      listV.view.read (Elt F) (View.write (Elt F) listV.view g (tile_run.sl.dma0_2 m d L) Finset.univ) x = m (iix d) ((ixAt L).emb x) :=
    fun g x => list_read d L g _ x
  have hinI : ∀ (g : Buf (Elt F) (listV.view.loc (me d L))) (x : S512.Idx),
      (listV.view.read (Elt F) (View.write (Elt F) listV.view g (tile_run.sl.dma0_2 m d L) Finset.univ) x).toNat
        < S100000x128.size gathers_S100000x128_S512x128.axis := fun g x => by rw [lI]; exact (hr d _).2
  sl_exec
  sl_step
  have whole (v : View sig .scVector .vmem S512x128 .f32) (f : v.ty.Contents (Elt F)) (w : S512x128.Idx → Elt F .f32)
      (R : List (View.Piece (Elt F) S512x128 .f32)) (x : S512x128.Idx) : v.read (Elt F) (v.writes (Elt F) f (⟨Rect.whole S512x128, w⟩ :: R)) x = w x := by
    have hw := View.read_writes_cons_emb v f (Rect.whole S512x128) w R x
    rwa [Rect.emb_whole_apply] at hw
  have payU : ∀ x, tile_run.sl.dma0_1 m d L fs fr hinU x = uPicked m d ((outAt L).emb x) := fun x =>
    (whole rowsV.view fr _ [] x).trans (streamed L (m (uix d)) (m (utab d)) _ (lU _) _ _ _ (congrArg (fun e x => m (utab d) (e x)) (funext table_emb)) x)
  have payI : ∀ x, tile_run.sl.dma0_3 m d L fs fr hinU hinI x = iPicked m d ((outAt L).emb x) := fun x =>
    (whole rowsV.view fr _ _ x).trans (streamed L (m (iix d)) (m (itab d)) _ (lI _) _ _ _ (congrArg (fun e x => m (itab d) (e x)) (funext table_emb)) x)
  isplitl [Hui Hut Huo Hii Hit Hio]
  · isplitl [Hui]; · iapply (Entails.of_eq (lent_ix (F := F) d L main_arg0_scv _ _ (ixAt_eq L) (m (uix d))).symm); iexact Hui
    isplitl [Hii]; · iapply (Entails.of_eq (lent_ix (F := F) d L main_arg1_scv _ _ (ixAt_eq L) (m (iix d))).symm); iexact Hii
    isplitl [Hut]; · iexact Hut
    isplitl [Hit]; · iexact Hit
    isplitl [Huo]
    · iapply (Entails.of_eq (landed (F := F) d L main_v0_0_scv _ _ (outAt_eq L) (m (uout d)) (uPicked m d) (tile_run.sl.dma0_1 m d L fs fr hinU) payU)); iexact Huo
    · iapply (Entails.of_eq (landed (F := F) d L main_v0_1_scv _ _ (outAt_eq L) (m (iout d)) (iPicked m d) (tile_run.sl.dma0_3 m d L fs fr hinU hinI) payI)); iexact Hio
  isplitl [Hs Hr Hbufs]
  · isplitl [Hs]; · iexists _; iexact Hs
    isplitl [Hr]; · iexists _; iexact Hr
    iexact Hbufs
  isplitl [HsA HsB HsC HsD HsG Hsems]
  · isplitl [HsA]; · iexact HsA
    isplitl [HsB]; · iexact HsB
    isplitl [HsC]; · iexact HsC
    isplitl [HsD]; · iexact HsD
    isplitl [HsG]; · iexact HsG
    iexact Hsems
  iexists _; isplitr
  swap; · iexact HO
  ipureintro; intro p hp
  simp only [Finset.mem_insert] at hp
  rcases hp with rfl | rfl | rfl | rfl | rfl | rfl | hp
  all_goals first | exact .inl hp | exact .inr rfl

end Tile

end Cert.Proof.Lookup

end
-- ==== Proof.Calls.lean ====
/-
  The SparseCore call as the launch theorem takes it: what it is handed and what it gives back, cut over its 2 × 16 vector
  subcores; each subcore's obligation; and the cut itself, of the TensorCore's six arrays into the 32 subcores' parts and
  back.
-/
module

public import proofs.«01_k».proof.Proof.Tile

@[expose] public section

noncomputable section

namespace Cert.Proof.Lookup

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What the call carries -/

/-- The block of SparseCore `c`'s subcore `i`. -/
def blk (c : Fin 2) (i : Fin 16) : Fin 32 := ⟨2 * i.val + c.val, by omega⟩

/-- The subcores, counted through both SparseCores, are the 32 blocks. -/
def blkEquiv : Fin 2 × Fin 16 ≃ Fin 32 := (Equiv.prodComm _ _).trans (finProdFinEquiv.trans (finCongr rfl))

theorem blkEquiv_apply (c : Fin 2) (i : Fin 16) : blkEquiv (c, i) = blk c i := Fin.ext (by
  show c.val + 2 * i.val = 2 * i.val + c.val
  omega)

variable (m : (ℓ : Loc nD τ sig) → Buf (Elt F) ℓ)

/-- A subcore's part before its run, and after. -/
abbrev before (d : Dev nD) (c : Fin 2) (i : Fin 16) : sProp 𝕄 := task m d (blk c i) (m (uout d)) (m (iout d))
abbrev done (d : Dev nD) (c : Fin 2) (i : Fin 16) : sProp 𝕄 := task m d (blk c i) (uPicked m d) (iPicked m d)

/-- The call hands each SparseCore its sixteen subcores' parts and takes them back with the rows looked up. -/
def P : (K (F := F)).Pay (nD := nD) (Val := Elt F) (Name := ℕ) (U := UU) where
  st := fun q d c => match q with | 0 => bigSep Finset.univ fun i : Fin 16 => before m d c i
  dn := fun q d c => match q with | 0 => bigSep Finset.univ fun i : Fin 16 => done m d c i
  go := fun q d c i => match q with | 0 => before m d c i
  td := fun q d c i => match q with | 0 => done m d c i
  x := fun _ _ => iprop(emp)

instance task_storable (d : Dev nD) (b : Fin 32) (fu : Buf (Elt F) (uout d)) (fi : Buf (Elt F) (iout d)) :
    BI.Storable (upEmb : UEmb _ 𝕄) (task m d b fu fi) := by
  unfold task; infer_instance

instance P_storable : (P (F := F) m).IsStorable where
  st q d c := match q with
    | 0 => (inferInstance : BI.Storable (upEmb : UEmb _ 𝕄) (bigSep Finset.univ fun i : Fin 16 => before m d c i))
  dn q d c := match q with
    | 0 => (inferInstance : BI.Storable (upEmb : UEmb _ 𝕄) (bigSep Finset.univ fun i : Fin 16 => done m d c i))
  go q d c i := match q with | 0 => (inferInstance : BI.Storable (upEmb : UEmb _ 𝕄) (before m d c i))
  td q d c i := match q with | 0 => (inferInstance : BI.Storable (upEmb : UEmb _ 𝕄) (done m d c i))

/-! ## The obligations -/

/-- The launch's coordinates of a subcore. -/
def coordsOf (c : Fin (grid0.bound 0)) (s : Fin (grid0.bound 1)) : grid0.Coords :=
  fun | 0 => c | 1 => s | ⟨_ + 2, h⟩ => absurd h (Nat.not_lt.2 (Nat.le_add_left _ _))

theorem body_at [FloatOps F] (c : Fin τ.nSC) (s : Fin τ.nSub) :
    defs₀ (F := F) (.scVector c s) 0 ()
      = SparseCore.onTile hcore0 hsub0 (fun c s => cc0_gather_k (coordsOf c s)
          utabV (Memref.isWhole_whole _) itabV (Memref.isWhole_whole _) uixV (Memref.isWhole_whole _) iixV (Memref.isWhole_whole _)
          uoutV (Memref.isWhole_whole _) ioutV (Memref.isWhole_whole _) listV (Memref.isWhole_whole _) rowsV (Memref.isWhole_whole _)
          cc0_scratch2 cc0_scoped0 cc0_scoped1 cc0_scoped2 cc0_scoped3) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono .rfl (sep_mono .rfl (sep_mono .rfl (exists_mono fun _ =>
    sep_mono (BI.pure_mono fun h p hp => (h p hp).imp_right Or.inl) .rfl)))

set_option maxRecDepth 16384 in
/-- Each subcore's obligation is its run. -/
theorem tileObl [FloatOps F] (hr : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_at]; simp only [SparseCore.onTile, hci, and_self, ↓reduceDIte]
  have h := (tile_run m d (coordsOf ⟨_, hci.1⟩ ⟨_, hci.2⟩) facts hr O W hO).trans (wp_mono frame _ _ fun _ => weaken_waits (q := 0))
  exact (sep_mono .rfl (sep_elim_right (P := iprop(emp)))).trans h

/-- A SparseCore's sixteen parts are dealt and taken back as they are. -/
theorem vecSplit : (K (F := F)).VecSplit' (P m) 0 := by
  intro d c
  show (bigSep Finset.univ fun i : Fin 16 => before m d c i) ⊢ |={Set.univ}=> iprop(
      (bigSep Finset.univ fun i : Fin 16 => before m d c i)
      ∗ ((bigSep Finset.univ fun i : Fin 16 => done m d c i) -∗ bigSep Finset.univ fun i : Fin 16 => done m d c i))
  iintro H; imodintro
  isplitl [H]; · iexact H
  iintro H; iexact H

/-! ## The cut -/

/-- Both SparseCores' parts together, as one star over the 32 blocks. -/
theorem blocks_eq (Φ : Fin 32 → sProp 𝕄) :
    (bigSep Finset.univ fun c : Fin 2 => bigSep Finset.univ fun i : Fin 16 => Φ (blk c i)) = bigSep Finset.univ Φ := by
  rw [bigSep_univ_equiv blkEquiv, bigSep_univ_prod]
  simp only [blkEquiv_apply]

theorem st_eq (d : Dev nD) : (bigSep Finset.univ fun c : Fin ((K (F := F)).nCore 0) => (P m).st 0 d c)
    = bigSep Finset.univ fun b : Fin 32 => task m d b (m (uout d)) (m (iout d)) :=
  blocks_eq fun b => task m d b (m (uout d)) (m (iout d))

theorem dn_eq (d : Dev nD) : (bigSep Finset.univ fun c : Fin ((K (F := F)).nCore 0) => (P m).dn 0 d c)
    = bigSep Finset.univ fun b : Fin 32 => task m d b (uPicked m d) (iPicked m d) :=
  blocks_eq fun b => task m d b (uPicked m d) (iPicked m d)

/-- A buffer held whole is 32 disjoint parts that cover it held. -/
theorem cut_blocks {ℓ : Loc nD τ sig} (S : Fin 32 → Finset (Idx ℓ)) (hd : ∀ b b', b ≠ b' → Disjoint (S b) (S b'))
    (hc : ∀ i, ∃ b, i ∈ S b) (f : Buf (Elt F) ℓ) :
    (ℓ ↦{fullShare} f : sProp 𝕄) = bigSep Finset.univ fun b : Fin 32 => ℓ ↦[S b]{fullShare} f := by
  rw [← pointsTo_biUnion Finset.univ S fun b _ b' _ h => hd b b' h]
  congr 1
  exact (Finset.eq_univ_iff_forall.2 fun i => Finset.mem_biUnion.2 ((hc i).imp fun b h => ⟨Finset.mem_univ b, h⟩)).symm

/-- An index vector held whole is its 32 blocks held; -/
theorem uix_blocks (d : Dev nD) (f : Buf (Elt F) (uix d)) :
    (uix d ↦{fullShare} f : sProp 𝕄) = bigSep Finset.univ fun b : Fin 32 => uix d ↦[(ixBlk b).set]{fullShare} f :=
  cut_blocks (ℓ := uix d) (fun b => (ixBlk b).set) (fun _ _ h => Rect.part_disjoint dvd_ix h) (fun i => Rect.exists_mem_part dvd_ix i) f
theorem iix_blocks (d : Dev nD) (f : Buf (Elt F) (iix d)) :
    (iix d ↦{fullShare} f : sProp 𝕄) = bigSep Finset.univ fun b : Fin 32 => iix d ↦[(ixBlk b).set]{fullShare} f :=
  cut_blocks (ℓ := iix d) (fun b => (ixBlk b).set) (fun _ _ h => Rect.part_disjoint dvd_ix h) (fun i => Rect.exists_mem_part dvd_ix i) f
/-- and so is a looked-up array. -/
theorem uout_blocks (d : Dev nD) (f : Buf (Elt F) (uout d)) :
    (uout d ↦{fullShare} f : sProp 𝕄) = bigSep Finset.univ fun b : Fin 32 => uout d ↦[(outBlk b).set]{fullShare} f :=
  cut_blocks (ℓ := uout d) (fun b => (outBlk b).set) (fun _ _ h => Rect.part_disjoint dvd_out h) (fun i => Rect.exists_mem_part dvd_out i) f
theorem iout_blocks (d : Dev nD) (f : Buf (Elt F) (iout d)) :
    (iout d ↦{fullShare} f : sProp 𝕄) = bigSep Finset.univ fun b : Fin 32 => iout d ↦[(outBlk b).set]{fullShare} f :=
  cut_blocks (ℓ := iout d) (fun b => (outBlk b).set) (fun _ _ h => Rect.part_disjoint dvd_out h) (fun i => Rect.exists_mem_part dvd_out i) f

/-- The six arrays whole, the results at `fu` and `fi`. -/
abbrev six (d : Dev nD) (fu : Buf (Elt F) (uout d)) (fi : Buf (Elt F) (iout d)) : sProp 𝕄 :=
  iprop((uix d ↦{fullShare} m (uix d)) ∗ (iix d ↦{fullShare} m (iix d)) ∗ (utab d ↦{fullShare} m (utab d))
    ∗ (itab d ↦{fullShare} m (itab d)) ∗ (uout d ↦{fullShare} fu) ∗ iout d ↦{fullShare} fi)
/-- What stays on the TensorCore while the subcores run: the rest of both tables' shares. -/
abbrev rest (d : Dev nD) : sProp 𝕄 := iprop((utab d ↦{kept} m (utab d)) ∗ itab d ↦{kept} m (itab d))

/-- The 32 parts, array by array. -/
theorem tasks_eq (d : Dev nD) (fu : Buf (Elt F) (uout d)) (fi : Buf (Elt F) (iout d)) :
    (bigSep Finset.univ fun b : Fin 32 => task m d b fu fi)
      = iprop((uix d ↦{fullShare} m (uix d)) ∗ (iix d ↦{fullShare} m (iix d))
          ∗ (bigSep Finset.univ fun b : Fin 32 => utab d ↦{tok b} m (utab d)) ∗ (bigSep Finset.univ fun b : Fin 32 => itab d ↦{tok b} m (itab d))
          ∗ (uout d ↦{fullShare} fu) ∗ iout d ↦{fullShare} fi) := by
  unfold task
  rw [bigSep_sep', bigSep_sep', bigSep_sep', bigSep_sep', bigSep_sep', ← uix_blocks, ← iix_blocks, ← uout_blocks, ← iout_blocks]

/-- The six arrays are cut into the 32 parts, -/
theorem deal (d : Dev nD) (fu : Buf (Elt F) (uout d)) (fi : Buf (Elt F) (iout d)) :
    six m d fu fi ⊢ iprop((bigSep Finset.univ fun b : Fin 32 => task m d b fu fi) ∗ rest m d) := by
  rw [tasks_eq]
  iintro ⟨H0, H1, H2, H3, H4, H5⟩
  ihave H2 := (Transfers.pointsTo_toks_split fullShare 32) $$ H2
  icases H2 with ⟨Hk2, H2⟩
  ihave H3 := (Transfers.pointsTo_toks_split fullShare 32) $$ H3
  icases H3 with ⟨Hk3, H3⟩
  isplitl [H0 H1 H2 H3 H4 H5]
  · isplitl [H0]; · iexact H0
    isplitl [H1]; · iexact H1
    isplitl [H2]; · iexact H2
    isplitl [H3]; · iexact H3
    isplitl [H4] <;> iassumption
  isplitl [Hk2] <;> iassumption

/-- and put together again. -/
theorem collect (d : Dev nD) (fu : Buf (Elt F) (uout d)) (fi : Buf (Elt F) (iout d)) :
    iprop((bigSep Finset.univ fun b : Fin 32 => task m d b fu fi) ∗ rest m d) ⊢ six m d fu fi := by
  rw [tasks_eq]
  iintro ⟨⟨H0, H1, H2, H3, H4, H5⟩, Hk2, Hk3⟩
  ihave H2 := (Transfers.pointsTo_toks_join fullShare 32) $$ [H2 Hk2]
  · isplitl [Hk2] <;> iassumption
  ihave H3 := (Transfers.pointsTo_toks_join fullShare 32) $$ [H3 Hk3]
  · isplitl [Hk3] <;> iassumption
  isplitl [H0]; · iexact H0
  isplitl [H1]; · iexact H1
  isplitl [H2]; · iexact H2
  isplitl [H3]; · iexact H3
  isplitl [H4] <;> iassumption

end Cert.Proof.Lookup

end
-- ==== Proof.Mlp.lean ====
/-
  The perceptron's region: one run of its body over the staged blocks, the proof data of the pipeline at any contents of
  the arrays it is entered with, and the region over the TensorCore's state.
-/
module

public import proofs.«01_k».proof.Proof.Setup
public import Idealize.ShloMosaic.Lib.VecWindow
public import Idealize.ShloMosaic.Lib.Pipeline.RegionsLoop

@[expose] public section

noncomputable section

namespace Cert.Proof.Lookup

open Cert.KernelIdeal Cert.KernelIdeal.Gen

open Idealize.ShloMosaic
open Idealize.ShloMosaic.TcCoe
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.Tactic

variable {F : FTy → Type}

local notation "𝕄" => MT nD τ sig (HIx 1) (Elt F) ℕ UU ℕ

/-! ## The body -/

/-- The contents of memref `M`'s buffer on core `c`. -/
abbrev Bf (c : Dev nD) {sp : Space} {S : Shape} {e : EltTy} (M : Memref sig .tc sp S e) : Type :=
  Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- A view one store has covered reads what the store put. -/
theorem read_stored {sp : Space} {S : Shape} {e : EltTy} (v : View sig .tc sp S e) (f : v.ty.Contents (Elt F))
    {off : Fin S.rank → ℕ} (inb : ∀ a, off a + S.size a ≤ S.size a) (w : S.Idx → Elt F e) :
    v.read (Elt F) (v.writes (Elt F) f [⟨Rect.unit off S.size inb, w⟩]) = w := by
  funext y
  have hy : (Rect.unit off S.size inb).emb y = y := funext fun a => Fin.ext (by
    show off a + 1 * (y a).val = (y a).val
    have := inb a; omega)
  exact (congrArg (v.read (Elt F) _) hy.symm).trans (View.read_writes_cons_emb ..)

/-- The body's run: from the eight staging buffers held whole, the seven blocks it reads come back as they were and the
    eighth buffer reads as the perceptron of those seven. -/
theorem mlp_run [FloatOps F] (c : Dev nD) (i : grid1.Coords)
    (M0 M1 : Memref sig .tc .vmem S2048x128 .f32) (h0 : M0.IsWhole) (h1 : M1.IsWhole)
    (M2 M3 : Memref sig .tc .vmem S128x128 .f32) (h2 : M2.IsWhole) (h3 : M3.IsWhole)
    (M4 : Memref sig .tc .vmem S1x128 .f32) (h4 : M4.IsWhole) (M5 : Memref sig .tc .vmem S128x128 .f32) (h5 : M5.IsWhole)
    (M6 : Memref sig .tc .vmem S1x128 .f32) (h6 : M6.IsWhole) (M7 : Memref sig .tc .vmem S2048x128 .f32) (h7 : M7.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7
        ∗ (∀ g : Bf (F := F) c M7, ⌜M7.view.read (Elt F) g = k1_pay1 (M0.view.read (Elt F) f0) (M1.view.read (Elt F) f1)
              (M2.view.read (Elt F) f2) (M3.view.read (Elt F) f3) (M4.view.read (Elt F) f4) (M5.view.read (Elt F) f5)
              (M6.view.read (Elt F) f6)⌝
            -∗ pt c M0 f0 ∗ pt c M1 f1 ∗ pt c M2 f2 ∗ pt c M3 f3 ∗ pt c M4 f4 ∗ pt c M5 f5 ∗ pt c M6 f6 ∗ pt c M7 g -∗ Q ⟨⟩))
      ⊢ wp frame (wpE (defs₀ (F := F)) 𝒱₀ c none) Set.univ
          (cc1__mlp_body i M0 h0 M1 h1 M2 h2 M3 h3 M4 h4 M5 h5 M6 h6 M7 h7) Q := by
  iintro ⟨H0, H1, H2, H3, H4, H5, H6, H7, Hk⟩
  rw [cc1__mlp_body_eq_skeleton]
  sl_exec!
  sl_step
  ihave Hk := Hk $$ %(M7.view.writes (Elt F) M7.view.junk (mlp_run.sl.H7_1 c M0 M1 M2 M3 M4 M5 M6 f0 f1 f2 f3 f4 f5 f6)) %(by
    unfold mlp_run.sl.H7_1
    refine (read_stored ..).trans ?_
    congr 1 <;> exact View.readAt_full ..)
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A whole memref owned reading `X`, as its buffer held whole at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The body's run over owned memrefs: the seven inputs come back, the eighth reads as the perceptron of them. -/
theorem mlp_body [FloatOps F] (c : Dev nD) (i : grid1.Coords)
    (M0 M1 : Memref sig .tc .vmem S2048x128 .f32) (h0 : M0.IsWhole) (h1 : M1.IsWhole)
    (M2 M3 : Memref sig .tc .vmem S128x128 .f32) (h2 : M2.IsWhole) (h3 : M3.IsWhole)
    (M4 : Memref sig .tc .vmem S1x128 .f32) (h4 : M4.IsWhole) (M5 : Memref sig .tc .vmem S128x128 .f32) (h5 : M5.IsWhole)
    (M6 : Memref sig .tc .vmem S1x128 .f32) (h6 : M6.IsWhole) (M7 : Memref sig .tc .vmem S2048x128 .f32) (h7 : M7.IsWhole)
    (X0 X1 : S2048x128.Idx → Elt F .f32) (X2 X3 : S128x128.Idx → Elt F .f32) (X4 : S1x128.Idx → Elt F .f32)
    (X5 : S128x128.Idx → Elt F .f32) (X6 : S1x128.Idx → Elt F .f32) (X7 : S2048x128.Idx → Elt F .f32) (A B : sProp 𝕄) :
    iprop(A ∗ B ∗ owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7)
      ⊢ wp frame (wpE (defs₀ (F := F)) 𝒱₀ c none) Set.univ
          (cc1__mlp_body i M0 h0 M1 h1 M2 h2 M3 h3 M4 h4 M5 h5 M6 h6 M7 h7) fun _ =>
          iprop(A ∗ B ∗ owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6 ∗ owns (c : Thread nD τ) M7 fullShare (k1_pay1 X0 X1 X2 X3 X4 X5 X6)) := by
  rw [owns_pt c M0 h0, owns_pt c M1 h1, owns_pt c M2 h2, owns_pt c M3 h3, owns_pt c M4 h4, owns_pt c M5 h5, owns_pt c M6 h6,
    owns_pt c M7 h7, owns_pt c M7 h7]
  iintro ⟨HA, HB, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, -, H7⟩⟩
  subst e0; subst e1; subst e2; subst e3; subst e4; subst e5; subst e6
  iapply (mlp_run c i M0 M1 h0 h1 M2 M3 h2 h3 M4 h4 M5 h5 M6 h6 M7 h7 f0 f1 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %g %hg ⟨H0, H1, H2, H3, H4, H5, H6, H7⟩
  isplitl [HA]; · iexact HA
  isplitl [HB]; · iexact HB
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists g; isplitr; · ipureintro; exact hg
  iexact H7

/-! ## The proof data, at any entry contents -/

variable [FloatOps F] (W : (c : Dev nD) → (b : Ref sig .tc) → Buf (Elt F) ((c : Thread nD τ).loc b))

/-- Window `w`'s block at point `t`, of the array as the region finds it. -/
abbrev blkIn (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- What the body leaves of the output at point `t`: the perceptron of the seven blocks there. -/
def outAfter (c : Dev nD) (t : Fin cfg1.N) : S2048x128.Idx → Elt F .f32 :=
  k1_pay1 (blkIn W c 0 t) (blkIn W c 1 t) (blkIn W c 2 t) (blkIn W c 3 t) (blkIn W c 4 t) (blkIn W c 5 t) (blkIn W c 6 t)

/-- The proof data of the region: the arrays as found; after the body the inputs' blocks as fetched and the output's
    the perceptron of them; nothing owed; full shares. -/
def dat (c : Dev nD) : Dat τ (Elt F) (HIx 1) ℕ UU ℕ cfg1 c where
  A w := W c (Pipeline.arrRef spec1 w)
  after w t := match w with
    | ⟨0, _⟩ => blkIn W c 0 t
    | ⟨1, _⟩ => blkIn W c 1 t
    | ⟨2, _⟩ => blkIn W c 2 t
    | ⟨3, _⟩ => blkIn W c 3 t
    | ⟨4, _⟩ => blkIn W c 4 t
    | ⟨5, _⟩ => blkIn W c 5 t
    | ⟨6, _⟩ => blkIn W c 6 t
    | ⟨7, _⟩ => outAfter W c t
  Φ _ := Pipeline.scopedRest (Ix := HIx 1) (Name := ℕ) (U := UU) (Lvl := ℕ) (Val := Elt F) spec1 c
  q _ := fullShare
  owed _ := 0

/-- An input window's staging buffer holds the array's block when the body runs, fetched there or not. -/
theorem before_in (c : Dev nD) (w : Fin cfg1.W) (hw : (cfg1.win w).isOut = false)
    (hk : ∀ t, (cfg1.win w).cut (cfg1.grid.coords t) ((dat W c).after w t) = (dat W c).blockOf w t)
    (hc : ∀ t t' : Fin cfg1.N, (cfg1.win w).index t = (cfg1.win w).index t' →
      (cfg1.win w).clip (cfg1.grid.coords t) = (cfg1.win w).clip (cfg1.grid.coords t'))
    (t : Fin cfg1.N) (d : (cfg1.win w).block.Idx → Elt F (cfg1.win w).elt) :
    (dat W c).before w t d = (dat W c).fetched w t d :=
  (dat W c).before_in_eq_fetched w hw (fun _ => rfl) hc hk t d

theorem body_obligation (c : Dev nD) : BodyObligation (dat W c) (defs₀ (F := F)) 𝒱₀ none Set.univ := fun t => by
  rw [bigSep_W1, bigSep_W1]
  rw [show (dat W c).Φ t.succ = (dat W c).Φ t.castSucc from rfl,
    show (dat W c).owesAt none t.succ = (dat W c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_in W c 0 rfl (fun _ => rfl) (fun _ _ _ => rfl) t d0, before_in W c 1 rfl (fun _ => rfl) (fun _ _ _ => rfl) t d1,
    before_in W c 2 rfl (fun _ => rfl) (fun _ _ _ => rfl) t d2, before_in W c 3 rfl (fun _ => rfl) (fun _ _ _ => rfl) t d3,
    before_in W c 4 rfl (fun _ => rfl) (fun _ _ _ => rfl) t d4, before_in W c 5 rfl (fun _ => rfl) (fun _ _ _ => rfl) t d5,
    before_in W c 6 rfl (fun _ => rfl) (fun _ _ _ => rfl) t d6]
  iapply (mlp_body c (grid1.coords t) (win1_0.stage (cfg1.slots t 0)) (win1_1.stage (cfg1.slots t 1)) (hstage1_0 ((cfg1.slots t 0).cast nbuf1_0))
    (hstage1_1 ((cfg1.slots t 1).cast nbuf1_1)) (win1_2.stage (cfg1.slots t 2)) (win1_3.stage (cfg1.slots t 3)) (hstage1_2 ((cfg1.slots t 2).cast nbuf1_2))
    (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (win1_6.stage (cfg1.slots t 6)) (hstage1_6 ((cfg1.slots t 6).cast nbuf1_6))
    (win1_7.stage (cfg1.slots t 7)) (hstage1_7 ((cfg1.slots t 7).cast nbuf1_7))
    (blkIn W c 0 t) (blkIn W c 1 t) (blkIn W c 2 t) (blkIn W c 3 t) (blkIn W c 4 t) (blkIn W c 5 t) (blkIn W c 6 t)
    ((dat W c).before 7 t d7) ((dat W c).Φ t.castSucc) ((dat W c).owesAt none t.castSucc))
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The region over the TensorCore's state -/

/-- The pipeline reads no table ahead: nothing is asked of one. -/
abbrev adm : (p : Fin 1) → (pcfgs (F := F) p).Adm := fun p => (cfgs p).toPCfg_adm

/-- The proof data, as the library's family over the program's pipelines. -/
def pdats : (p : Fin 1) → (c : Dev nD) → Dat τ (Elt F) (HIx 1) ℕ UU ℕ (Pipeline.pin (pcfgs (F := F)) adm p) c
  | ⟨0, _⟩ => fun c => dat W c

/-- The output array after the region: every block written back. -/
def outArr (c : Dev nD) : Buf (Elt F) ((c : Thread nD τ).loc main_v5) := (dat W c).arrAt 7 cfg1.N

variable (Wp : (c : Dev nD) → (b : Ref sig .tc) → Buf (Elt F) ((c : Thread nD τ).loc b))

set_option backward.isDefEq.respectTransparency.types false in
/-- The region, from every unscoped buffer of the TensorCore at `W` to the same at `Wp`, which has the output array at
    what the write-backs leave and agrees with `W` elsewhere. -/
def reg (hout : ∀ c, Wp c main_v5 = outArr W c) (hne : ∀ c (b : Ref sig .tc), b ≠ main_v5 → Wp c b = W c b) :
    Pipeline.RegionSeg (pcfgs (F := F)) adm (pdats W) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ ∃ O', owes (c : Thread nD τ) (0 : CellTallies nD τ sig (HIx 1)) O')
  post c := iprop(unscopedBufs c (Wp c) ∗ ∃ O', owes (c : Thread nD τ) (0 : CellTallies nD τ sig (HIx 1)) O')
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W) (launch1).win (launch1).arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O', HO⟩; iexists O'; isplitr; · ipureintro; exact fun _ _ => Or.inl trivial
      iexact HO
    isplitr; · iempintro
    iexact Hrest
  hin c := by
    rw [show (pdats W 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (pdats W 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats W) ((pdats W 0 c).share_full fun _ => rfl) (W c) (Wp c) ((pdats W 0 c).arrAt · cfg1.N)
      (fun w => by
        fin_cases w
        · exact ((pdats W 0 c).arrAt_in 0 rfl _).trans (hne c main_v0_0 (by decide)).symm
        · exact ((pdats W 0 c).arrAt_in 1 rfl _).trans (hne c main_v0_1 (by decide)).symm
        · exact ((pdats W 0 c).arrAt_in 2 rfl _).trans (hne c main_v1 (by decide)).symm
        · exact ((pdats W 0 c).arrAt_in 3 rfl _).trans (hne c main_v2 (by decide)).symm
        · exact ((pdats W 0 c).arrAt_in 4 rfl _).trans (hne c main_v3 (by decide)).symm
        · exact ((pdats W 0 c).arrAt_in 5 rfl _).trans (hne c main_arg6 (by decide)).symm
        · exact ((pdats W 0 c).arrAt_in 6 rfl _).trans (hne c main_v4 (by decide)).symm
        · exact (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%O', -, HO⟩; iexists O'; iexact HO

end Cert.Proof.Lookup
-- ==== Proof.Run.lean ====
/-
  The whole program's run: the TensorCore hands the index vectors, the tables and the result arrays to the SparseCores and
  gets the looked-up rows back, cuts and reshapes the weights, and runs the perceptron's region over them. From every
  memory whose indices name rows, every execution ends with the arguments as they were, every semaphore at zero, and the
  result as the region computes it.
-/
module

public import proofs.«01_k».proof.Proof.Calls
public import proofs.«01_k».proof.Proof.Mlp

@[expose] public section

noncomputable section

namespace Cert.Proof.Lookup

open Cert.KernelIdeal Cert.KernelIdeal.Gen

open Idealize.ShloMosaic
open Idealize.ShloMosaic.TcCoe
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The contents along @main -/

/-- A device's buffers at launch, -/
abbrev V₀ (d : Dev nD) : Valuation τ sig (Elt F) := fun b => m (d, b)
/-- once the rows are looked up, -/
def V₁ (d : Dev nD) : Valuation τ sig (Elt F) :=
  Function.update (Function.update (V₀ m d) (Proc.devRef .tc main_v0_0) (uPicked m d)) (Proc.devRef .tc main_v0_1) (iPicked m d)

section Host
variable [FloatOps F]

/-- the four operations between the call and the region, -/
abbrev hostOps : List (HloOp τ sig (Elt F)) :=
  [StableHlo.unary main_arg4 main_v1 ((extractStridedSlice S128x128 ![0, 0] · slices_S256x128_S128x128_0_0) : (⟨S256x128, .f32⟩ : BufTy).Contents (Elt F) → (⟨S128x128, .f32⟩ : BufTy).Contents (Elt F)),
   StableHlo.unary main_arg4 main_v2 ((extractStridedSlice S128x128 ![128, 0] · slices_S256x128_S128x128_128_0) : (⟨S256x128, .f32⟩ : BufTy).Contents (Elt F) → (⟨S128x128, .f32⟩ : BufTy).Contents (Elt F)),
   StableHlo.reshape main_arg5 main_v3 (rfl : (.f32 : EltTy) = .f32) shapeCasts_S128_S1x128,
   StableHlo.reshape main_arg7 main_v4 (rfl : (.f32 : EltTy) = .f32) shapeCasts_S128_S1x128]

/-- when the region is entered, -/
def Wc (d : Dev nD) (b : Ref sig .tc) : Buf (Elt F) ((d : Thread nD τ).loc b) := StableHlo.after hostOps (V₁ m d) b
/-- and when it is left. -/
def Wv (d : Dev nD) : Valuation τ sig (Elt F) :=
  Function.update (StableHlo.after hostOps (V₁ m d)) (Proc.devRef .tc main_v5) (outArr (Wc m) d)
abbrev Wp (d : Dev nD) (b : Ref sig .tc) : Buf (Elt F) ((d : Thread nD τ).loc b) := Wv m d b

theorem Wp_out (d : Dev nD) : Wp m d main_v5 = outArr (Wc m) d := Function.update_self ..
theorem Wp_ne (d : Dev nD) (b : Ref sig .tc) (h : b ≠ main_v5) : Wp m d b = Wc m d b :=
  Function.update_of_ne (StableHlo.devRef_ne_of_ne h) ..

/-- Before the region only the two looked-up arrays and the four operations' results change. -/
theorem Wc_arg (d : Dev nD) (b : Ref sig .tc)
    (h : b ≠ main_v0_0 ∧ b ≠ main_v0_1 ∧ b ≠ main_v1 ∧ b ≠ main_v2 ∧ b ≠ main_v3 ∧ b ≠ main_v4) :
    Wc m d b = m ((d : Thread nD τ).loc b) := by
  obtain ⟨h0, h1, h2, h3, h4, h5⟩ := h
  unfold Wc
  simp only [StableHlo.after_cons, StableHlo.after_nil]
  rw [StableHlo.reshape_result_ne (h := h5), StableHlo.reshape_result_ne (h := h4), StableHlo.unary_result_ne (h := h3),
    StableHlo.unary_result_ne (h := h2)]
  unfold V₁
  rw [Function.update_of_ne (StableHlo.devRef_ne_of_ne h1), Function.update_of_ne (StableHlo.devRef_ne_of_ne h0)]

/-- The program after the call, over the labels below the launch. -/
def tail : Prog (TpuEff nD τ sig (Elt F) (ΛP (F := F)) .tc) PUnit :=
  StableHlo.seq hostOps >>= fun _ => .op (.customCall (Pipeline.entry 0) ()) fun _ => .ret ⟨⟩

theorem main_eq (d : Dev nD) : main (F := F) d = (sc (F := F)).run d 0 >>= fun _ => SparseCore.liftProg tail := rfl

end Host

/-! ## The TensorCore's unscoped buffers -/

/-- Its unscoped references, as device buffers. -/
def tcSet : Finset (DevRef τ sig) := (StableHlo.tcRefs τ sig).filter fun b => ¬ b.isScoped

theorem held_eq (d : Dev nD) (X : Valuation τ sig (Elt F)) :
    (unscopedBufs d (fun b => X b) : sProp 𝕄) = StableHlo.held (d : Thread nD τ) tcSet X := by
  unfold unscopedBufs StableHlo.held tcSet StableHlo.tcRefs
  rw [Finset.filter_map, bigSep_map]
  rfl

/-- The fifteen of them, one by one. -/
theorem unscoped_list (d : Dev nD) (X : (b : Ref sig .tc) → Buf (Elt F) ((d : Thread nD τ).loc b)) :
    (unscopedBufs d X : sProp 𝕄) = iprop(((d : Thread nD τ).loc main_arg0 ↦{fullShare} X main_arg0) ∗ ((d : Thread nD τ).loc main_arg1 ↦{fullShare} X main_arg1)
      ∗ ((d : Thread nD τ).loc main_arg2 ↦{fullShare} X main_arg2) ∗ ((d : Thread nD τ).loc main_arg3 ↦{fullShare} X main_arg3)
      ∗ ((d : Thread nD τ).loc main_v0_0 ↦{fullShare} X main_v0_0) ∗ ((d : Thread nD τ).loc main_v0_1 ↦{fullShare} X main_v0_1)
      ∗ ((d : Thread nD τ).loc main_arg4 ↦{fullShare} X main_arg4) ∗ ((d : Thread nD τ).loc main_arg5 ↦{fullShare} X main_arg5)
      ∗ ((d : Thread nD τ).loc main_arg6 ↦{fullShare} X main_arg6) ∗ ((d : Thread nD τ).loc main_arg7 ↦{fullShare} X main_arg7)
      ∗ ((d : Thread nD τ).loc main_v1 ↦{fullShare} X main_v1) ∗ ((d : Thread nD τ).loc main_v2 ↦{fullShare} X main_v2)
      ∗ ((d : Thread nD τ).loc main_v3 ↦{fullShare} X main_v3) ∗ ((d : Thread nD τ).loc main_v4 ↦{fullShare} X main_v4)
      ∗ (d : Thread nD τ).loc main_v5 ↦{fullShare} X main_v5) := by
  unfold unscopedBufs
  rw [show (Finset.univ.filter fun b : Ref sig .tc => ¬ b.isScoped) = {main_arg0, main_arg1, main_arg2, main_arg3, main_v0_0, main_v0_1,
      main_arg4, main_arg5, main_arg6, main_arg7, main_v1, main_v2, main_v3, main_v4, main_v5} by decide]
  iterate 14 rw [SparseCore.bigSep_insert' (by decide)]
  rw [bigSep_singleton]

/-- The nine the SparseCores do not touch, at contents `X`. -/
abbrev nine (d : Dev nD) (X : (b : Ref sig .tc) → Buf (Elt F) ((d : Thread nD τ).loc b)) : sProp 𝕄 :=
  iprop(((d : Thread nD τ).loc main_arg4 ↦{fullShare} X main_arg4) ∗ ((d : Thread nD τ).loc main_arg5 ↦{fullShare} X main_arg5)
      ∗ ((d : Thread nD τ).loc main_arg6 ↦{fullShare} X main_arg6) ∗ ((d : Thread nD τ).loc main_arg7 ↦{fullShare} X main_arg7)
      ∗ ((d : Thread nD τ).loc main_v1 ↦{fullShare} X main_v1) ∗ ((d : Thread nD τ).loc main_v2 ↦{fullShare} X main_v2)
      ∗ ((d : Thread nD τ).loc main_v3 ↦{fullShare} X main_v3) ∗ ((d : Thread nD τ).loc main_v4 ↦{fullShare} X main_v4)
      ∗ (d : Thread nD τ).loc main_v5 ↦{fullShare} X main_v5)

theorem unscoped_launch (d : Dev nD) : (unscopedBufs d (fun b => m ((SparseCore.T d).loc b)) : sProp 𝕄)
    ⊢ iprop(six m d (m (uout d)) (m (iout d)) ∗ nine d fun b => m ((d : Thread nD τ).loc b)) := by
  rw [unscoped_list]
  iintro ⟨H0, H1, H2, H3, H4, H5, Hr⟩
  isplitr [Hr]
  · isplitl [H0]; · iexact H0
    isplitl [H1]; · iexact H1
    isplitl [H2]; · iexact H2
    isplitl [H3]; · iexact H3
    isplitl [H4] <;> iassumption
  iexact Hr

theorem V₁_ne (d : Dev nD) (b : Ref sig .tc) (h0 : b ≠ main_v0_0) (h1 : b ≠ main_v0_1) : V₁ m d b = m ((d : Thread nD τ).loc b) := by
  unfold V₁
  rw [Function.update_of_ne (StableHlo.devRef_ne_of_ne h1), Function.update_of_ne (StableHlo.devRef_ne_of_ne h0)]
theorem V₁_u (d : Dev nD) : V₁ m d main_v0_0 = uPicked m d := by
  unfold V₁
  rw [Function.update_of_ne (StableHlo.devRef_ne_of_ne (by decide)), Function.update_self]
theorem V₁_i (d : Dev nD) : V₁ m d main_v0_1 = iPicked m d := by
  unfold V₁
  rw [Function.update_self]

theorem unscoped_looked (d : Dev nD) : iprop(six m d (uPicked m d) (iPicked m d) ∗ nine d fun b => m ((d : Thread nD τ).loc b))
    ⊢ (StableHlo.held (d : Thread nD τ) tcSet (V₁ m d) : sProp 𝕄) := by
  rw [← held_eq, unscoped_list, V₁_u, V₁_i]
  iterate 13 rw [V₁_ne m d _ (by decide) (by decide)]
  iintro ⟨⟨H0, H1, H2, H3, H4, H5⟩, Hr⟩
  isplitl [H0]; · iexact H0
  isplitl [H1]; · iexact H1
  isplitl [H2]; · iexact H2
  isplitl [H3]; · iexact H3
  isplitl [H4]; · iexact H4
  isplitl [H5]; · iexact H5
  iexact Hr

/-! ## The launch element -/

/-- The handshakes' and the staging cells' ghost state; no counter. -/
def u₀ : UU := (initOf (K (F := F)).hsCells (K (F := F)).hsToks, (initOf (Pipeline.cells cfgs cellOf_inj) (Pipeline.launchToks cfgs cellOf_inj), 1))

section Main
variable [FloatOps F]

/-- What a TensorCore is dealt of it: its pipeline's cells and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem no_extra : (bigSep Finset.univ fun thr : Thread nD τ => bigSep Finset.univ fun q : Fin 1 => (P (F := F) m).x q thr)
    = (iprop(emp) : sProp 𝕄) := by
  rw [show (bigSep Finset.univ fun thr : Thread nD τ => bigSep Finset.univ fun q : Fin 1 => (P (F := F) m).x q thr)
    = bigSep Finset.univ fun _ => iprop(emp) from bigSep_congr fun _ _ => bigSep_univ_of_subsingleton (0 : Fin 1)]
  exact bigSep_emp_const _

/-- With one pipeline, a product over pipelines is its one factor. -/
theorem one_pipeline (Φ : Fin 1 → Dev nD → sProp 𝕄) :
    (bigSep Finset.univ fun d : Dev nD => bigSep Finset.univ fun p : Fin 1 => Φ p d) = bigSep Finset.univ (Φ 0) :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  rw [no_extra]
  iintro Hu
  ihave H := (ownU_pair (initOf (K (F := F)).hsCells (K (F := F)).hsToks)
    ((initOf (Pipeline.cells cfgs cellOf_inj) (Pipeline.launchToks cfgs cellOf_inj), 1) : UR sig nD τ × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (one_pipeline (fun p d => Pipeline.cellsGhost (Pipeline.pin (pcfgs (F := F)) adm) EP p d))); iexact Hg
    · iapply (Entails.of_eq (one_pipeline (fun p d => Pipeline.toksInit (Pipeline.pin (pcfgs (F := F)) adm) EP p d))); iexact Ht
  iempintro

/-! ## @main on the TensorCore -/

/-- A TensorCore's waits never outrank the end of the one call. -/
theorem waits_below (d : Dev nD) (W : Waits sig (HIx 1)) : (K (F := F)).WBelow (SparseCore.T d) W 8 := fun p _ => by
  rcases p with ⟨sm, ι⟩
  cases ι with
  | none => exact Nat.zero_le _
  | some q =>
    show 8 * q.val + 6 + 1 ≤ 8
    have := q.isLt; omega

theorem host_bufs : ∀ op ∈ (hostOps : List (HloOp τ sig (Elt F))), op.bufs ⊆ tcSet := by
  intro op h
  simp only [hostOps, List.mem_cons, List.not_mem_nil, or_false] at h
  rcases h with rfl | rfl | rfl | rfl <;> simp only [StableHlo.unary_bufs, StableHlo.reshape_bufs] <;> decide

theorem host_fresh : ∀ op ∈ (hostOps : List (HloOp τ sig (Elt F))), op.fresh = ∅ := by
  intro op h
  simp only [hostOps, List.mem_cons, List.not_mem_nil, or_false] at h
  rcases h with rfl | rfl | rfl | rfl <;> rfl

theorem reg_pre (d : Dev nD) : (reg (Wc m) (Wp m) (Wp_out m) (Wp_ne m)).pre d
    = iprop(unscopedBufs d (Wc m d) ∗ ∃ O' : Waits sig (HIx 1), owes (d : Thread nD τ) 0 O') := rfl
theorem reg_post (d : Dev nD) : (reg (Wc m) (Wp m) (Wp_out m) (Wp_ne m)).post d
    = iprop(unscopedBufs d (Wp m d) ∗ ∃ O' : Waits sig (HIx 1), owes (d : Thread nD τ) 0 O') := rfl

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ unscopedBufs d (Wp m d) ∗ (K (F := F)).tcEnd d) := by
  unfold SparseCore.Cfg.tcRes SparseCore.Cfg.tcEnd
  rw [main_eq, wp_bind]
  iintro ⟨#Hctx, Hst, ⟨Hb, Hub, Hts, -⟩, Hg⟩
  ihave Hub := (unscoped_launch m d) $$ Hub
  icases Hub with ⟨Hsix, Hnine⟩
  ihave Hsix := (deal m d (m (uout d)) (m (iout d))) $$ Hsix
  icases Hsix with ⟨Hparts, Hrest⟩
  iapply ((K (F := F)).wp_run (D (F := F)) 𝒱 (EH := EH) (P := P m) κ d 0) $$ [Hst Hparts Hrest Hnine Hb Hts Hg]
  isplitr; · iexact Hctx
  isplitl [Hst]; · iexact Hst
  isplitl [Hparts]; · rw [st_eq]; iexact Hparts
  iintro ⟨Hst, Hdn⟩
  ihave Hdn := (Entails.of_eq (dn_eq m d)) $$ Hdn
  ihave Hsix := (collect m d (uPicked m d) (iPicked m d)) $$ [Hdn Hrest]
  · isplitl [Hdn] <;> iassumption
  ihave Hh := (unscoped_looked m d) $$ [Hsix Hnine]
  · isplitl [Hsix] <;> iassumption
  ihave Hlv := (SparseCore.Cfg.ctx_levAts κ) $$ Hctx
  unfold SparseCore.Cfg.tcSt
  icases Hst with ⟨⟨%W, -, HO⟩, Hst⟩
  iapply ((K (F := F)).wp_liftProg (D (F := F)) 𝒱 (SparseCore.T d) Set.univ none tail)
  unfold tail
  iapply (StableHlo.wp_seq _ _ _ d tcSet _ hostOps host_bufs host_fresh (V₁ m d)) $$ [Hb Hh]
  · isplitl [Hb] <;> iassumption
  iintro ⟨Hb, Hh⟩
  ihave Hub := (Entails.of_eq (held_eq d (StableHlo.after hostOps (V₁ m d))).symm) $$ Hh
  iapply (Pipeline.RegionSeg.wp (pcfgs (F := F)) adm (pdats (Wc m)) none cellOf_inj EP defs₀ 𝒱₀ (K (F := F)).L (K (F := F)).lev
    (reg (Wc m) (Wp m) (Wp_out m) (Wp_ne m)) d none (fun _ hu => nomatch hu) _ _)
  icases Hg with ⟨Hg, Htok⟩
  isplitl [Hst Hts]
  · iintro ⟨Hb, HR⟩
    ihave HR := (Entails.of_eq (reg_post m d)) $$ HR
    icases HR with ⟨Hub, %W', HO⟩
    rw [wp_ret]; imodintro
    isplitl [Hst HO]
    · isplitl [HO]
      · iexists W'
        isplitr; · ipureintro; exact waits_below d W'
        rw [(K (F := F)).Otc_end d (le_refl 1)]
        iexact HO
      · iexact Hst
    isplitl [Hub]; · iexact Hub
    isplitl [Hb] <;> iassumption
  isplitl [Hb]; · iexact Hb
  isplitl [Hub HO]
  · iapply (Entails.of_eq (reg_pre m d).symm)
    isplitl [Hub]; · iexact Hub
    iexists W
    ihave HO := (Entails.of_eq (congrArg (fun O => owes (SparseCore.T d : Thread nD τ) O W) (show (K (F := F)).Otc d ((0 : Fin 1).val + 1) = 0 from (K (F := F)).Otc_end d (le_refl 1)))) $$ HO
    iexact HO
  isplitl [Hlv]; · iexact Hlv
  isplitl [Hg] <;> iassumption

/-! ## The program's run -/

def fq (d : Dev nD) (s' : Phys nD τ sig (Elt F)) : Prop :=
  s'.mem.mem ((d : Thread nD τ).loc main_v5) = outArr (Wc m) d
    ∧ ∀ b : Ref sig .tc, b ∈ [main_arg0, main_arg1, main_arg2, main_arg3, main_arg4, main_arg5, main_arg6, main_arg7] →
        s'.mem.mem ((d : Thread nD τ).loc b) = m ((d : Thread nD τ).loc b)

theorem hfin (d : Dev nD) (s' : Phys nD τ sig (Elt F)) : iprop(unscopedBufs d (Wp m d) ∗ SI s') ⊢ (⌜fq m d s'⌝ : sProp 𝕄) := by
  iintro ⟨Hb, HSI⟩
  ihave Hb := (Entails.of_eq (held_eq d (Wv m d))) $$ Hb
  unfold StableHlo.held
  ihave H := (SI_pointsTo_bufs_agree (st := s') (c := d) (qs := fun _ => fullShare) (F := Wv m d) tcSet) $$ [HSI Hb]
  · isplitl [HSI] <;> iassumption
  icases H with %h
  ipureintro
  refine ⟨(h (Proc.devRef .tc main_v5) (by decide)).trans (Wp_out m d), fun b hb => ?_⟩
  have hne : b ≠ main_v5 ∧ (b ≠ main_v0_0 ∧ b ≠ main_v0_1 ∧ b ≠ main_v1 ∧ b ≠ main_v2 ∧ b ≠ main_v3 ∧ b ≠ main_v4) := by
    revert b; decide
  have hmem : (Proc.devRef .tc b : DevRef τ sig) ∈ tcSet := by revert b; decide
  exact (h _ hmem).trans ((Wp_ne m d b hne.1).trans (Wc_arg m d b hne.2))

/-- The end of a run: the result is the blocks' perceptron outputs, no argument has changed, and every counter is zero. -/
def QC : PUnit × MemSt nD τ sig (Elt F) → Prop := fun r =>
  (∀ d : Dev nD, r.2.mem ((d : Thread nD τ).loc main_v5) = outArr (Wc m) d
    ∧ ∀ b : Ref sig .tc, b ∈ [main_arg0, main_arg1, main_arg2, main_arg3, main_arg4, main_arg5, main_arg6, main_arg7] →
        r.2.mem ((d : Thread nD τ).loc b) = m ((d : Thread nD τ).loc b)) ∧ r.2.sem = fun _ => 0

/-- From any memory whose indices name rows of the tables, every run of the program ends so. -/
theorem run_main [∀ e, Nonempty (Elt F e)] (hr : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hr)
    (fun q _ => match q with | 0 => SparseCore.Cfg.VecSplit.of_plain (vecSplit m))
    m ρ main (fun d => G d) (fun d => unscopedBufs d (Wp m d)) (u₀ (F := F)) (sep_elim_left.trans (hu₀ m)) (hmain m ρ) (fq m) (hfin m) (QC m)
    (fun _ h hz => ⟨h, hz⟩)

end Main

end Cert.Proof.Lookup

end
-- ==== Proof.Range.lean ====
/-
  The precondition read back: where it holds, every word of both index vectors, read unsigned, is below 100000.
-/
module

public import proofs.«01_k».proof.Proof.Gen.Pre_indices_in_range
public import Idealize.ShloMosaic.Lib.ReduceAll
public import Idealize.ShloMosaic.Lib.WordCmp

@[expose] public section

namespace Cert.Proof.Lookup

open Idealize.ShloMosaic

/-- A word that is at least 0 and less than 100000, both compared as signed words, is below 100000 read unsigned. -/
theorem word_in_range (v : BitVec 32) (h : IntOp.andi (IntOp.cmpi .sge v 0#32) (IntOp.cmpi .slt v 100000#32) = 1#1) : v.toNat < 100000 := by
  rw [WordCmp.andi_sge_zero_slt_ofNat (k := 100000) (by decide)] at h
  by_contra hn
  rw [decide_eq_false hn] at h
  exact absurd h (by decide)

/-- Where the predicate is all ones, every word of the two index vectors is below 100000. -/
theorem indices_lt {F : FTy → Type} [FloatOps F] (a0 a1 : IVec Pre_indices_in_range.S16384 32) (a2 a3 : FVec F Pre_indices_in_range.S100000x128 .f32)
    (a4 : FVec F Pre_indices_in_range.S256x128 .f32) (a5 : FVec F Pre_indices_in_range.S128 .f32)
    (a6 : FVec F Pre_indices_in_range.S128x128 .f32) (a7 : FVec F Pre_indices_in_range.S128 .f32)
    (h : Pre_indices_in_range.fn (F := F) a0 a1 a2 a3 a4 a5 a6 a7 = fun _ => 1#1) (j : Pre_indices_in_range.S16384.Idx) :
    (a0 j).toNat < 100000 ∧ (a1 j).toNat < 100000 := by
  have e := congrFun h (fun a => a.elim0)
  obtain ⟨e0, e1⟩ := IntOp.andi_eq_one.1 e
  haveI : Subsingleton Pre_indices_in_range.S_.Idx := ⟨fun x y => funext fun a => a.elim0⟩
  exact ⟨word_in_range _ (Host.reduce_andi_all _ _ _ _ _ e0 j), word_in_range _ (Host.reduce_andi_all _ _ _ _ _ e1 j)⟩

end Cert.Proof.Lookup

end
-- ==== Proof.Frames.lean ====
/-
  The frames of the kernel and of its idealization, from the one run: where the indices are in range, each runs to its
  end with its arguments unchanged and every semaphore counter at zero.
-/
module

public import proofs.«01_k».proof.Defs
public import proofs.«01_k».proof.Proof.Run
public import proofs.«01_k».proof.Proof.Range
public import proofs.«01_k».proof.Proof.Gen.Kernel
public import proofs.«01_k».proof.Proof.Gen.ReferenceIdeal.Run

@[expose] public section

noncomputable section

namespace Cert.Proof.Lookup

open Idealize.ShloMosaic Idealize.SL.Sem Idealize.ShloMosaic.TcCoe

theorem range_kernel (m : (ℓ : Loc Cert.Kernel.nD Cert.Kernel.τ Cert.Kernel.sig) → Buf (Elt Bits) ℓ) (h : Cert.Pre_Kernel m) : InRange (F := Bits) m :=
  fun d j => indices_lt _ _ _ _ _ _ _ _ (h d) j

theorem range_ideal (m : (ℓ : Loc Cert.KernelIdeal.nD Cert.KernelIdeal.τ Cert.KernelIdeal.sig) → Buf (Elt Ideal) ℓ) (h : Cert.Pre_KernelIdeal m) :
    InRange (F := Ideal) m :=
  fun d j => indices_lt _ _ _ _ _ _ _ _ (h d) j

section Same
variable {F : FTy → Type} [FloatOps F]

/-- No operation was replaced: the two printed programs have the same bodies, -/
theorem same_bodies : Cert.Kernel.defs₀ (F := F) = Cert.KernelIdeal.defs₀ (F := F) := by
  funext p ℓ a
  rcases p with _ | c | ⟨c, s⟩
  · match ℓ, a with
    | 0, _ => rfl
    | 1, (_, _) => rfl
  · match ℓ, a with
    | 0, _ => rfl
    | 1, (_, _) => rfl
  · match ℓ, a with
    | 0, _ => rfl
    | 1, (_, _) => rfl

/-- the same tables of bodies, -/
theorem same_defs : Cert.Kernel.defs (F := F) = Cert.KernelIdeal.defs (F := F) :=
  congrArg (fun D => (Cert.KernelIdeal.sc (F := F)).defs (Pipeline.defs Cert.KernelIdeal.pcfgs D)) same_bodies

/-- and the same threads. -/
theorem same_threads : Cert.Kernel.threads (F := F) = Cert.KernelIdeal.threads (F := F) := rfl

end Same

/-- The arguments of a run's end, one by one. -/
theorem args_kept {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : QC m r) (d : Dev Cert.KernelIdeal.nD) :
    r.2.mem ((d : Thread Cert.KernelIdeal.nD Cert.KernelIdeal.τ).loc Cert.KernelIdeal.main_arg0) = m ((d : Thread Cert.KernelIdeal.nD Cert.KernelIdeal.τ).loc Cert.KernelIdeal.main_arg0)
    ∧ r.2.mem ((d : Thread Cert.KernelIdeal.nD Cert.KernelIdeal.τ).loc Cert.KernelIdeal.main_arg1) = m ((d : Thread Cert.KernelIdeal.nD Cert.KernelIdeal.τ).loc Cert.KernelIdeal.main_arg1)
    ∧ r.2.mem ((d : Thread Cert.KernelIdeal.nD Cert.KernelIdeal.τ).loc Cert.KernelIdeal.main_arg2) = m ((d : Thread Cert.KernelIdeal.nD Cert.KernelIdeal.τ).loc Cert.KernelIdeal.main_arg2)
    ∧ r.2.mem ((d : Thread Cert.KernelIdeal.nD Cert.KernelIdeal.τ).loc Cert.KernelIdeal.main_arg3) = m ((d : Thread Cert.KernelIdeal.nD Cert.KernelIdeal.τ).loc Cert.KernelIdeal.main_arg3)
    ∧ r.2.mem ((d : Thread Cert.KernelIdeal.nD Cert.KernelIdeal.τ).loc Cert.KernelIdeal.main_arg4) = m ((d : Thread Cert.KernelIdeal.nD Cert.KernelIdeal.τ).loc Cert.KernelIdeal.main_arg4)
    ∧ r.2.mem ((d : Thread Cert.KernelIdeal.nD Cert.KernelIdeal.τ).loc Cert.KernelIdeal.main_arg5) = m ((d : Thread Cert.KernelIdeal.nD Cert.KernelIdeal.τ).loc Cert.KernelIdeal.main_arg5)
    ∧ r.2.mem ((d : Thread Cert.KernelIdeal.nD Cert.KernelIdeal.τ).loc Cert.KernelIdeal.main_arg6) = m ((d : Thread Cert.KernelIdeal.nD Cert.KernelIdeal.τ).loc Cert.KernelIdeal.main_arg6)
    ∧ r.2.mem ((d : Thread Cert.KernelIdeal.nD Cert.KernelIdeal.τ).loc Cert.KernelIdeal.main_arg7) = m ((d : Thread Cert.KernelIdeal.nD Cert.KernelIdeal.τ).loc Cert.KernelIdeal.main_arg7) :=
  have a := (h.1 d).2
  ⟨a _ (by decide), a _ (by decide), a _ (by decide), a _ (by decide), a _ (by decide), a _ (by decide), a _ (by decide), a _ (by decide)⟩

/-- The kernel's frame. -/
theorem frame_kernel : Cert.quiescent_Kernel := fun m ρ hpre =>
  (congrArg (fun D => θ_run D (Cert.Kernel.threads (F := Bits)) ⟨m, fun _ => 0, ρ⟩ _) (same_defs (F := Bits))).mpr
    ((θ_run (Cert.KernelIdeal.defs (F := Bits)) (Cert.KernelIdeal.threads (F := Bits)) ⟨m, fun _ => 0, ρ⟩).mono
      (fun r h => ⟨args_kept m r h, h.2⟩) (run_main (F := Bits) m ρ (range_kernel m hpre)))

/-- The idealized kernel's frame. -/
theorem frame_ideal : Cert.quiescent_KernelIdeal := fun m ρ hpre =>
  (θ_run (Cert.KernelIdeal.defs (F := Ideal)) _ _).mono (fun r h => ⟨args_kept m r h, h.2⟩) (run_main (F := Ideal) m ρ (range_ideal m hpre))

/-- The reference's frame, with no precondition; it has no semaphore. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

end Cert.Proof.Lookup

end
-- ==== Proof.Perceptron.lean ====
/-
  The perceptron over the extended reals: one formula for its entry at row `r`, column `c`, and the two programs' arrays
  read as that formula — the kernel body's result block, and the reference's chain of host operations.
-/
module

public import proofs.«01_k».proof.Proof.Gen.KernelIdeal.Skeleton
public import proofs.«01_k».proof.Proof.Gen.ReferenceIdeal
public import Idealize.ShloMosaic.Lib.MatmulPlain
public import Idealize.ShloMosaic.Lib.KernelVsHost
public import Idealize.ShloMosaic.Lib.IdealHost
public import Idealize.ShloMosaic.Lib.Pipeline.Value

@[expose] public section

noncomputable section

namespace Cert.Proof.Lookup

open Idealize.ShloMosaic Idealize.ShloMosaic.ValueIdx
open scoped BigOperators

/-- Entry (·, c) of the perceptron of one row: `a` and `b` the two halves of its input, `wa` and `wb` the two halves of
    the first weight, `b1` and `b2` the biases, `w2` the second weight's column `c`. -/
def unit (a b : Fin 128 → EReal) (wa wb : Fin 128 → Fin 128 → EReal) (b1 : Fin 128 → EReal) (w2 : Fin 128 → EReal) (b2 : EReal) : EReal :=
  (∑ k : Fin 128, max ((∑ j : Fin 128, a j * wa j k) + (∑ j : Fin 128, b j * wb j k) + b1 k) 0 * w2 k) + b2

/-! ## The kernel body's block -/

section Body
open Cert.KernelIdeal Cert.KernelIdeal.Gen

/-- The body's matrix product is a plain one. -/
theorem dot_plain : dot_S2048x128_S128x128_S2048x128_1_0_0_1_n_n = DotDims.plain 2048 128 128 := rfl

/-- The body's product into zeros, at an entry. -/
theorem body_dot {φ₁ φ₂ : FTy} (x : FVec Ideal S2048x128 φ₁) (y : FVec Ideal S128x128 φ₂) (r : Fin 2048) (c : Fin 128) :
    matmul dot_S2048x128_S128x128_S2048x128_1_0_0_1_n_n none x y (constant S2048x128 .f32 0x00000000#32) (ix2 r c)
      = ∑ k : Fin 128, (x (ix2 r k) : EReal) * y (ix2 k c) := by
  refine (Ideal.matmul_plain_apply (M := 2048) (K := 128) (N := 128) none x y _ r c).trans ?_
  show Ideal.ofBits .f32 0x00000000#32 + _ = _
  rw [Ideal.ofBits_zero_f32, zero_add]

/-- A one-row block broadcast down the rows, at an entry. -/
theorem body_bias (v : FVec Ideal S1x128 .f32) (r : Fin 2048) (c : Fin 128) :
    broadcastTo S2048x128 (shapeCast S1x128 v shapeCasts_S1x128_S1x128) broadcasts_S1x128_S2048x128 (ix2 r c) = v (ix2 (0 : Fin 1) c) := by
  rw [shapeCast_self]
  exact broadcastTo_apply _ _ _ _ fun a => by
    match a with
    | ⟨0, _⟩ => rfl
    | ⟨1, _⟩ => rfl

/-- The body's result block, at an entry, is the perceptron of its row. -/
theorem pay_apply (u i : FVec Ideal S2048x128 .f32) (wa wb : FVec Ideal S128x128 .f32) (b1 : FVec Ideal S1x128 .f32)
    (w2 : FVec Ideal S128x128 .f32) (b2 : FVec Ideal S1x128 .f32) (r : Fin 2048) (c : Fin 128) :
    k1_pay1 (F := Ideal) u i wa wb b1 w2 b2 (ix2 r c)
      = unit (fun j => u (ix2 r j)) (fun j => i (ix2 r j)) (fun j k => wa (ix2 j k)) (fun j k => wb (ix2 j k))
          (fun k => b1 (ix2 (0 : Fin 1) k)) (fun k => w2 (ix2 k c)) (b2 (ix2 (0 : Fin 1) c)) := by
  unfold k1_pay1 unit
  dsimp only
  refine congrArg₂ (· + ·) ?_ (body_bias b2 r c)
  refine (body_dot _ _ r c).trans (Finset.sum_congr rfl fun k _ => congrArg (· * (w2 (ix2 k c) : EReal)) ?_)
  refine congrArg₂ max (congrArg₂ (· + ·) (congrArg₂ (· + ·) ?_ ?_) (body_bias b1 r k)) Ideal.ofBits_zero_f32
  · refine (body_dot _ _ r k).trans ?_
    rw [shapeCast_self, shapeCast_self]; rfl
  · refine (body_dot _ _ r k).trans ?_
    rw [shapeCast_self, shapeCast_self]; rfl

end Body

/-! ## The reference's chain -/

section Chain
open Cert.ReferenceIdeal Cert.ReferenceIdeal.Facts₀

/-- The reference's first product, at an entry. -/
theorem wide_dot (x : FVec Ideal S16384x256 .f32) (y : FVec Ideal S256x128 .f32) (r : Fin 16384) (c : Fin 128) :
    Host.dotGeneral dot_S16384x256_S256x128_S16384x128_1_0_0_1_n_n none x y (ix2 r c)
      = ∑ k : Fin 256, (x (ix2 r k) : EReal) * y (ix2 k c) := by
  rw [← matmul_zero_eq_dotGeneral]
  refine (Ideal.matmul_plain_apply (M := 16384) (K := 256) (N := 128) none x y _ r c).trans ?_
  show Ideal.ofBits .f32 0x00000000#32 + _ = _
  rw [Ideal.ofBits_zero_f32, zero_add]

/-- The reference's second product, at an entry. -/
theorem square_dot (x : FVec Ideal S16384x128 .f32) (y : FVec Ideal S128x128 .f32) (r : Fin 16384) (c : Fin 128) :
    Host.dotGeneral dot_S16384x128_S128x128_S16384x128_1_0_0_1_n_n none x y (ix2 r c)
      = ∑ k : Fin 128, (x (ix2 r k) : EReal) * y (ix2 k c) := by
  rw [← matmul_zero_eq_dotGeneral]
  refine (Ideal.matmul_plain_apply (M := 16384) (K := 128) (N := 128) none x y _ r c).trans ?_
  show Ideal.ofBits .f32 0x00000000#32 + _ = _
  rw [Ideal.ofBits_zero_f32, zero_add]

/-- A bias laid along every row, at an entry. -/
theorem chain_bias (v : FVec Ideal S128 .f32) (r : Fin 16384) (c : Fin 128) :
    broadcastInDim S16384x128 ![0, 1] bcast_S1x128_S16384x128_0_1 (broadcastInDim S1x128 ![1] bcast_S128_S1x128_1 v) (ix2 r c) = v (ix1 c) := by
  refine (broadcastInDim_oneRow_apply (m := 16384) (n := 128) _ _ r c).trans ?_
  exact broadcastInDim_apply _ _ _ _ _ fun a => by
    match a with
    | ⟨0, _⟩ => rfl

/-- Two halves side by side, at a column of the left half. -/
theorem joined_left (u i : FVec Ideal S16384x128 .f32) (r : Fin 16384) (j : Fin 128) :
    concatenate S16384x256 1 [⟨S16384x128, u⟩, ⟨S16384x128, i⟩] concatenates_S16384x128_S16384x128_S16384x256_d1 (ix2 r (Fin.castAdd 128 j))
      = u (ix2 r j) :=
  concatenate_pair_apply_left (t := S16384x256) 1 u i _ _ rfl _ fun b => by
    match b with
    | ⟨0, _⟩ => rfl
    | ⟨1, _⟩ => rfl

/-- Two halves side by side, at a column of the right half. -/
theorem joined_right (u i : FVec Ideal S16384x128 .f32) (r : Fin 16384) (j : Fin 128) :
    concatenate S16384x256 1 [⟨S16384x128, u⟩, ⟨S16384x128, i⟩] concatenates_S16384x128_S16384x128_S16384x256_d1 (ix2 r (Fin.natAdd 128 j))
      = i (ix2 r j) :=
  concatenate_pair_apply_right (t := S16384x256) 1 u i _ _ rfl rfl _
    (fun b hb => by
      match b, hb with
      | ⟨0, _⟩, _ => rfl
      | ⟨1, _⟩, hb => exact absurd rfl hb)
    (by show j.val + 128 = 128 + j.val; omega)

/-- The reference's chain on two gathered arrays `u` and `i`. -/
def chain (u i : FVec Ideal S16384x128 .f32) (W1 : FVec Ideal S256x128 .f32) (b1 : FVec Ideal S128 .f32) (W2 : FVec Ideal S128x128 .f32)
    (b2 : FVec Ideal S128 .f32) : FVec Ideal S16384x128 .f32 :=
  addf (Host.dotGeneral dot_S16384x128_S128x128_S16384x128_1_0_0_1_n_n none
      (maximumf (addf (Host.dotGeneral dot_S16384x256_S256x128_S16384x128_1_0_0_1_n_n none
            (concatenate S16384x256 1 [⟨S16384x128, u⟩, ⟨S16384x128, i⟩] concatenates_S16384x128_S16384x128_S16384x256_d1) W1)
          (broadcastInDim S16384x128 ![0, 1] bcast_S1x128_S16384x128_0_1 (broadcastInDim S1x128 ![1] bcast_S128_S1x128_1 b1)))
        (broadcastInDim S16384x128 ![] bcast_S_S16384x128 (constant S_ .f32 0x00000000#32))) W2)
    (broadcastInDim S16384x128 ![0, 1] bcast_S1x128_S16384x128_0_1 (broadcastInDim S1x128 ![1] bcast_S128_S1x128_1 b2))

/-- The chain, at an entry, is the perceptron of its row: the sum over 256 columns is the sum over the left half and the
    sum over the right half. -/
theorem chain_apply (u i : FVec Ideal S16384x128 .f32) (W1 : FVec Ideal S256x128 .f32) (b1 : FVec Ideal S128 .f32)
    (W2 : FVec Ideal S128x128 .f32) (b2 : FVec Ideal S128 .f32) (r : Fin 16384) (c : Fin 128) :
    chain u i W1 b1 W2 b2 (ix2 r c)
      = unit (fun j => u (ix2 r j)) (fun j => i (ix2 r j)) (fun j k => W1 (ix2 (Fin.castAdd 128 j) k))
          (fun j k => W1 (ix2 (Fin.natAdd 128 j) k)) (fun k => b1 (ix1 k)) (fun k => W2 (ix2 k c)) (b2 (ix1 c)) := by
  unfold chain unit
  refine congrArg₂ (· + ·) ?_ (chain_bias b2 r c)
  refine (square_dot _ _ r c).trans (Finset.sum_congr rfl fun k _ => congrArg (· * (W2 (ix2 k c) : EReal)) ?_)
  refine congrArg₂ max (congrArg₂ (· + ·) ?_ (chain_bias b1 r k)) Ideal.ofBits_zero_f32
  refine (wide_dot _ _ r k).trans ((Fin.sum_univ_add (a := 128) (b := 128) _).trans ?_)
  exact congrArg₂ (· + ·) (Finset.sum_congr rfl fun j _ => by rw [joined_left]) (Finset.sum_congr rfl fun j _ => by rw [joined_right])

end Chain

end Cert.Proof.Lookup

end
-- ==== Proof.Take.lean ====
/-
  The reference's row lookup: where every index word is below 100000, read unsigned, the lookup with its wrap of
  negative indices and its mask of rows out of range is the table's row named by the word.
-/
module

public import proofs.«01_k».proof.Proof.Gen.ReferenceIdeal
public import Idealize.ShloMosaic.Lib.Routing.Ops
public import Idealize.ShloMosaic.Lib.ReduceAll
public import Idealize.ShloMosaic.Lib.WordCmp
public import Idealize.ShloMosaic.Lib.IdealHost

@[expose] public section

noncomputable section

namespace Cert.Proof.Lookup

open Idealize.ShloMosaic Idealize.ShloMosaic.ValueIdx
open Cert.ReferenceIdeal Cert.ReferenceIdeal.Facts₀

/-- The index column the lookup reads: a negative word moved up by the number of rows. -/
def wrapped (ix : IVec S16384 32) : IVec S16384x1 32 :=
  broadcastInDim S16384x1 ![0] bcast_S16384_S16384x1_0 (select (cmpi .slt ix (broadcastInDim S16384 ![] bcast_S_S16384 (constantI S_ 32 0#32)))
    (addi ix (broadcastInDim S16384 ![] bcast_S_S16384 (constantI S_ 32 100000#32))) ix)

/-- One bit per index: whether its word, after the wrap, names a row of the table. -/
def inside (ix : IVec S16384 32) : IVec S16384 1 :=
  Host.reduce IntOp.andi
    (andi (cmpi .sge (wrapped ix) (broadcastInDim S16384x1 ![] bcast_S_S16384x1 (constantI S_ 32 0#32)))
      (cmpi .sle (wrapped ix) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The reference's lookup of `ix` in `tab`. -/
def taken (ix : IVec S16384 32) (tab : FVec Ideal S100000x128 .f32) : FVec Ideal S16384x128 .f32 :=
  select (broadcastInDim S16384x128 ![0] bcast_S16384_S16384x128_0 (inside ix))
    (Host.gather gather_S100000x128_S16384x1_S16384x128_1_0_n_n_0_1_1128 tab (wrapped ix))
    (broadcastInDim S16384x128 ![] bcast_S_S16384x128 (constant S_ .f32 0x7FC00000#32))

/-- The word tests of the lookup, for a word below 100000: not negative, and at most 99999. -/
theorem word_tests (v : BitVec 32) (h : v.toNat < 100000) :
    IntOp.cmpi .slt v 0#32 = 0#1 ∧ IntOp.andi (IntOp.cmpi .sge v 0#32) (IntOp.cmpi .sle v 99999#32) = 1#1 := by
  have e : v.toInt = (v.toNat : Int) := WordCmp.toInt_eq_toNat_of_lt_half (by show v.toNat < 2 ^ 31; omega)
  have e0 : (0#32 : BitVec 32).toInt = 0 := by decide
  have e9 : (99999#32 : BitVec 32).toInt = 99999 := by decide
  refine ⟨?_, ?_⟩
  · rw [WordCmp.cmpi_slt_eq, decide_eq_false (by rw [e, e0]; omega)]; rfl
  · rw [WordCmp.cmpi_sge_eq, WordCmp.cmpi_sle_eq, decide_eq_true (by rw [e, e0]; omega), decide_eq_true (by rw [e, e9]; omega)]; rfl

variable (ix : IVec S16384 32) (hix : ∀ j, (ix j).toNat < 100000)
include hix

/-- No word is negative, so the wrap moves none. -/
theorem unmoved (j : S16384.Idx) :
    select (cmpi .slt ix (broadcastInDim S16384 ![] bcast_S_S16384 (constantI S_ 32 0#32)))
      (addi ix (broadcastInDim S16384 ![] bcast_S_S16384 (constantI S_ 32 100000#32))) ix j = ix j := by
  show Scalar.select (IntOp.cmpi .slt (ix j) 0#32) _ (ix j) = ix j
  rw [(word_tests _ (hix j)).1]
  rfl

/-- The column the lookup reads is the index vector. -/
theorem wrapped_apply (y : S16384x1.Idx) : wrapped ix y = ix (ix1 (y 0 : Fin 16384)) :=
  (broadcastInDim_apply _ _ _ y (ix1 (y 0 : Fin 16384)) fun a => by
    match a with
    | ⟨0, _⟩ => rfl).trans (unmoved ix hix _)

/-- Every word names a row. -/
theorem inside_apply (j : S16384.Idx) : inside ix j = 1#1 :=
  Host.reduce_andi_one _ _ _ _ j rfl fun y => by
    show IntOp.andi (IntOp.cmpi .sge (wrapped ix y) 0#32) (IntOp.cmpi .sle (wrapped ix y) 99999#32) = 1#1
    rw [wrapped_apply ix hix]
    exact (word_tests _ (hix _)).2

/-- The lookup, at an entry: the table at the row the index word names. -/
theorem taken_apply (tab : FVec Ideal S100000x128 .f32) (r : Fin 16384) (c : Fin 128) :
    taken ix tab (ix2 r c) = tab (ix2 (⟨(ix (ix1 r)).toNat, hix _⟩ : Fin 100000) c) := by
  unfold taken
  show Scalar.select (inside ix _) (Host.gather _ tab (wrapped ix) (ix2 r c)) _ = _
  rw [inside_apply ix hix]
  refine (select_one _ _).trans ?_
  refine Routing.gather_row (nb := 100000) (B := 128) (n := 16384) _ rfl rfl rfl rfl rfl tab (wrapped ix) r c ⟨_, hix _⟩ ?_ (by decide)
  rw [wrapped_apply ix hix]
  exact BitVec.eq_of_toNat_eq (WordCmp.toNat_ofNat_of_lt (ix (ix1 r)).isLt).symm

end Cert.Proof.Lookup

end
-- ==== Proof.Equation.lean ====
/-
  The two programs' results are one array over the extended reals: each of the kernel's eight blocks is the perceptron of
  2048 rows of the looked-up arrays, and so are those rows of the reference's result.
-/
module

public import proofs.«01_k».proof.Proof.Run
public import proofs.«01_k».proof.Proof.Perceptron
public import proofs.«01_k».proof.Proof.Take
public import Idealize.ShloMosaic.Lib.Pipeline.ValueKit

@[expose] public section

noncomputable section

namespace Cert.Proof.Lookup

open Cert.KernelIdeal Cert.KernelIdeal.Gen
open Idealize.ShloMosaic hiding ix1 ix2 eq_ix2
open Idealize.ShloMosaic.ValueIdx
open Idealize.ShloMosaic.TcCoe

/-! ## What the region finds in its arrays -/

section Entry
variable {F : FTy → Type} [FloatOps F] (m : (ℓ : Loc nD τ sig) → Buf (Elt F) ℓ) (d : Dev nD)

/-- The users' rows, as looked up. -/
theorem Wc_u : Wc m d main_v0_0 = uPicked m d := by
  unfold Wc
  simp only [StableHlo.after_cons, StableHlo.after_nil]
  rw [StableHlo.reshape_result_ne (h := by decide), StableHlo.reshape_result_ne (h := by decide),
    StableHlo.unary_result_ne (h := by decide), StableHlo.unary_result_ne (h := by decide), V₁_u]

/-- The items' rows, as looked up. -/
theorem Wc_i : Wc m d main_v0_1 = iPicked m d := by
  unfold Wc
  simp only [StableHlo.after_cons, StableHlo.after_nil]
  rw [StableHlo.reshape_result_ne (h := by decide), StableHlo.reshape_result_ne (h := by decide),
    StableHlo.unary_result_ne (h := by decide), StableHlo.unary_result_ne (h := by decide), V₁_i]

/-- The upper half of the first weight. -/
theorem Wc_top : Wc m d main_v1 = extractStridedSlice S128x128 ![0, 0] (m ((d : Thread nD τ).loc main_arg4)) slices_S256x128_S128x128_0_0 := by
  unfold Wc
  simp only [StableHlo.after_cons, StableHlo.after_nil]
  rw [StableHlo.reshape_result_ne (h := by decide), StableHlo.reshape_result_ne (h := by decide),
    StableHlo.unary_result_ne (h := by decide), StableHlo.unary_result', V₁_ne m d _ (by decide) (by decide)]

/-- The lower half of the first weight. -/
theorem Wc_low : Wc m d main_v2 = extractStridedSlice S128x128 ![128, 0] (m ((d : Thread nD τ).loc main_arg4)) slices_S256x128_S128x128_128_0 := by
  unfold Wc
  simp only [StableHlo.after_cons, StableHlo.after_nil]
  rw [StableHlo.reshape_result_ne (h := by decide), StableHlo.reshape_result_ne (h := by decide),
    StableHlo.unary_result', StableHlo.unary_result_ne (h := by decide), V₁_ne m d _ (by decide) (by decide)]

/-- The first bias as one row. -/
theorem Wc_b1 : Wc m d main_v3 = shapeCast S1x128 (m ((d : Thread nD τ).loc main_arg5)) shapeCasts_S128_S1x128 := by
  unfold Wc
  simp only [StableHlo.after_cons, StableHlo.after_nil]
  rw [StableHlo.reshape_result_ne (h := by decide), StableHlo.reshape_result',
    StableHlo.unary_result_ne (h := by decide), StableHlo.unary_result_ne (h := by decide), V₁_ne m d _ (by decide) (by decide)]
  rfl

/-- The second bias as one row. -/
theorem Wc_b2 : Wc m d main_v4 = shapeCast S1x128 (m ((d : Thread nD τ).loc main_arg7)) shapeCasts_S128_S1x128 := by
  unfold Wc
  simp only [StableHlo.after_cons, StableHlo.after_nil]
  rw [StableHlo.reshape_result', StableHlo.reshape_result_ne (h := by decide),
    StableHlo.unary_result_ne (h := by decide), StableHlo.unary_result_ne (h := by decide), V₁_ne m d _ (by decide) (by decide)]
  rfl

end Entry

/-! ## The two results -/

/-- A row vector cast from a vector, at an entry. -/
theorem row_of_vector {α : Type} (v : S128.Idx → α) (c : Fin 128) :
    shapeCast S1x128 v shapeCasts_S128_S1x128 (ix2 (0 : Fin 1) c) = v (ix1 c) :=
  shapeCast_apply _ _ _ _ (by rw [Shape.rowMajor_val_two, Shape.rowMajor_val_one]; show c.val = 0 * 128 + c.val; omega)

variable (m : (ℓ : Loc nD τ sig) → Buf (Elt Ideal) ℓ)

/-- The rows a lookup picks are the rows the reference takes. -/
theorem picked_eq_taken (ix : IVec S16384 32) (hix : ∀ j, (ix j).toNat < 100000) (tab : FVec Ideal S100000x128 .f32) (r : Fin 16384) (c : Fin 128) :
    picked (F := Ideal) ix tab (ix2 r c) = taken ix tab (ix2 r c) := by
  rw [taken_apply ix hix]
  have e1 : at1 r = ix1 r := funext fun a => by
    match a with
    | ⟨0, _⟩ => rfl
  show tab (at2 (rowOf (ix (at1 r))) c) = _
  rw [e1]
  refine congrArg tab (funext fun a => ?_)
  match a with
  | ⟨0, _⟩ => exact Fin.ext (Nat.mod_eq_of_lt (hix _))
  | ⟨1, _⟩ => rfl

/-- The reference's result, of its eight arguments; -/
def result (a0 a1 : IVec S16384 32) (a2 a3 : FVec Ideal S100000x128 .f32) (a4 : FVec Ideal S256x128 .f32) (a5 : FVec Ideal S128 .f32)
    (a6 : FVec Ideal S128x128 .f32) (a7 : FVec Ideal S128 .f32) : FVec Ideal S16384x128 .f32 :=
  chain (taken a0 a2) (taken a1 a3) a4 a5 a6 a7

/-- and of the arguments in the kernel's launch memory. -/
def expected (d : Dev nD) : FVec Ideal S16384x128 .f32 :=
  result (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6)) (m ((d : Thread nD τ).loc main_arg7))

/-- The row blocks move together, and every other block is the whole array. -/
theorem blocks : ∀ t : Fin grid1.N, win1_0.index t = win1_7.index t ∧ win1_1.index t = win1_7.index t ∧ win1_7.index t 1 = 0
    ∧ win1_2.index t = ![0, 0] ∧ win1_3.index t = ![0, 0] ∧ win1_4.index t = ![0, 0] ∧ win1_5.index t = ![0, 0] ∧ win1_6.index t = ![0, 0] := by decide +kernel

/-- The kernel's result array is the reference's result. -/
theorem out_eq (hr : InRange (F := Ideal) m) (d : Dev nD) : outArr (Wc m) d = expected m d := by
  unfold outArr
  refine (dat (Wc m) d).arrAt_eq_of_covers 7 _ (by decide +kernel) fun t hf y => ?_
  blk_simp
  obtain ⟨h0, h1, h7, h2, h3, h4, h5, h6⟩ := blocks t
  obtain ⟨r, c, rfl⟩ : ∃ (r : Fin 2048) (c : Fin 128), y = ix2 r c := ⟨_, _, eq_ix2 y⟩
  show k1_pay1 (F := Ideal) _ _ _ _ _ _ _ (ix2 r c) = _
  obtain ⟨R, hR⟩ : ∃ R : Fin 16384, R.val = win1_7.index t 0 * 2048 + r.val := by
    have h := ((win1_7.blk t).view.emb (ix2 r c) 0).isLt
    refine ⟨⟨win1_7.index t 0 * 2048 + r.val, ?_⟩, rfl⟩
    blk_simp at h
    exact h
  have e7 : (win1_7.blk t).view.emb (ix2 r c) = ix2 R c := by blk_ext [h7, hR]
  have e0 (j : Fin 128) : blkIn (Wc m) d 0 t (ix2 r j) = taken (m (uix d)) (m (utab d)) (ix2 R j) := by
    have e : (win1_0.blk t).view.emb (ix2 r j) = ix2 R j := by blk_ext [h0, h7, hR]
    show Wc m d main_v0_0 ((win1_0.blk t).view.emb _) = _
    rw [e]
    exact (congrFun (Wc_u m d) _).trans (picked_eq_taken _ (fun x => (hr d x).1) _ R j)
  have e1 (j : Fin 128) : blkIn (Wc m) d 1 t (ix2 r j) = taken (m (iix d)) (m (itab d)) (ix2 R j) := by
    have e : (win1_1.blk t).view.emb (ix2 r j) = ix2 R j := by blk_ext [h1, h7, hR]
    show Wc m d main_v0_1 ((win1_1.blk t).view.emb _) = _
    rw [e]
    exact (congrFun (Wc_i m d) _).trans (picked_eq_taken _ (fun x => (hr d x).2) _ R j)
  have e2 (j k : Fin 128) : blkIn (Wc m) d 2 t (ix2 j k) = m ((d : Thread nD τ).loc main_arg4) (ix2 (Fin.castAdd 128 j : Fin 256) k) := by
    have e : (win1_2.blk t).view.emb (ix2 j k) = ix2 j k := by blk_ext [h2]
    show Wc m d main_v1 ((win1_2.blk t).view.emb _) = _
    rw [e]
    refine (congrFun (Wc_top m d) _).trans (extractStridedSlice_apply _ _ _ _ _ fun a => ?_)
    match a with
    | ⟨0, _⟩ => exact (Nat.zero_add _).symm
    | ⟨1, _⟩ => exact (Nat.zero_add _).symm
  have e3 (j k : Fin 128) : blkIn (Wc m) d 3 t (ix2 j k) = m ((d : Thread nD τ).loc main_arg4) (ix2 (Fin.natAdd 128 j : Fin 256) k) := by
    have e : (win1_3.blk t).view.emb (ix2 j k) = ix2 j k := by blk_ext [h3]
    show Wc m d main_v2 ((win1_3.blk t).view.emb _) = _
    rw [e]
    refine (congrFun (Wc_low m d) _).trans (extractStridedSlice_apply _ _ _ _ _ fun a => ?_)
    match a with
    | ⟨0, _⟩ => rfl
    | ⟨1, _⟩ => exact (Nat.zero_add _).symm
  have e4 (k : Fin 128) : blkIn (Wc m) d 4 t (ix2 (0 : Fin 1) k) = m ((d : Thread nD τ).loc main_arg5) (ix1 k) := by
    have e : (win1_4.blk t).view.emb (ix2 (0 : Fin 1) k) = ix2 (0 : Fin 1) k := by blk_ext [h4]
    show Wc m d main_v3 ((win1_4.blk t).view.emb _) = _
    rw [e]
    exact (congrFun (Wc_b1 m d) _).trans (row_of_vector _ k)
  have e5 (k : Fin 128) : blkIn (Wc m) d 5 t (ix2 k c) = m ((d : Thread nD τ).loc main_arg6) (ix2 k c) := by
    have e : (win1_5.blk t).view.emb (ix2 k c) = ix2 k c := by blk_ext [h5]
    show Wc m d main_arg6 ((win1_5.blk t).view.emb _) = _
    rw [e]
    exact congrFun (Wc_arg m d main_arg6 (by decide)) _
  have e6 : blkIn (Wc m) d 6 t (ix2 (0 : Fin 1) c) = m ((d : Thread nD τ).loc main_arg7) (ix1 c) := by
    have e : (win1_6.blk t).view.emb (ix2 (0 : Fin 1) c) = ix2 (0 : Fin 1) c := by blk_ext [h6]
    show Wc m d main_v4 ((win1_6.blk t).view.emb _) = _
    rw [e]
    exact (congrFun (Wc_b2 m d) _).trans (row_of_vector _ c)
  refine (pay_apply _ _ _ _ _ _ _ r c).trans (Eq.trans ?_ ((chain_apply _ _ _ _ _ _ R c).symm.trans (congrArg (expected m d) e7).symm))
  simp only [e0, e1, e2, e3, e4, e5, e6]

end Cert.Proof.Lookup

end
-- ==== Proof.lean ====
/- The proof of the certificate's claim: the frames of the kernel, of its idealization and of the reference; that the
   idealization changed nothing; and that over the extended reals the kernel's result is the reference's. -/
module

public import proofs.«01_k».proof.Defs
public import proofs.«01_k».proof.Proof.Frames
public import proofs.«01_k».proof.Proof.Equation

@[expose] public section

noncomputable section

namespace Cert.Proof

open Idealize.ShloMosaic Idealize.SL.Sem Cert.Proof.Lookup

/-- From launches whose arguments agree and whose indices name rows, the kernel's result and the reference's are one
    array: the perceptron of the rows looked up. -/
theorem algebraic : Cert.algebraic_KernelIdeal_ReferenceIdeal := by
  intro m ρ m' ρ' hpre hagree
  have hr := range_ideal m hpre
  refine ⟨fun d => outArr (Wc m) d, ?_, ?_⟩
  · exact (θ_run (Cert.KernelIdeal.defs (F := Ideal)) _ _).mono (fun r h d => ⟨(h.1 d).1, args_kept m r h d⟩)
      (run_main (F := Ideal) m ρ hr)
  · refine (θ_run (Cert.ReferenceIdeal.defs (F := Ideal)) _ _).mono (fun r h d => ⟨(h d).1.trans ?_, (h d).2⟩)
      (Cert.ReferenceIdeal.Value.run (F := Ideal) m' ρ')
    obtain ⟨a0, a1, a2, a3, a4, a5, a6, a7⟩ := hagree d
    refine Eq.trans ?_ (out_eq m hr d).symm
    unfold expected
    rw [← a0, ← a1, ← a2, ← a3, ← a4, ← a5, ← a6, ← a7]
    rfl

theorem claim : Cert.Claim := ⟨Cert.Kernel.Gen.facts, Cert.KernelIdeal.Gen.facts, Cert.ReferenceIdeal.Gen.facts, Cert.Pre_indices_in_range.Gen.facts,
  frame_kernel, frame_ideal, frame_reference, fun m ρ _ => frame_reference m ρ trivial, trivial, algebraic⟩

end Cert.Proof

end
